-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "far" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1x1024x1024 : Shape := ⟨3, ![1, 1024, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S1x2048x1024 .f32) (main_arg1 : FVec F S1x1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  main_v8
-- ==== Kernel.lean ====
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S2048x1 : Shape := ⟨2, ![2048, 1]⟩
abbrev S1x2048 : Shape := ⟨2, ![1, 2048]⟩
abbrev S1x12x2048x2048 : Shape := ⟨4, ![1, 12, 2048, 2048]⟩
abbrev S2048 : Shape := ⟨1, ![2048]⟩
abbrev S45x1024 : Shape := ⟨2, ![45, 1024]⟩
abbrev S3x1024 : Shape := ⟨2, ![3, 1024]⟩
abbrev S48x1024 : Shape := ⟨2, ![48, 1024]⟩
abbrev S1x48 : Shape := ⟨2, ![1, 48]⟩
abbrev S48 : Shape := ⟨1, ![48]⟩
abbrev S2048x48 : Shape := ⟨2, ![2048, 48]⟩
abbrev S48x1 : Shape := ⟨2, ![48, 1]⟩
abbrev S256x1 : Shape := ⟨2, ![256, 1]⟩
abbrev S1x1x256x2048 : Shape := ⟨4, ![1, 1, 256, 2048]⟩
abbrev S256x2048 : Shape := ⟨2, ![256, 2048]⟩

abbrev nBuf : Space → Nat
  | .hbm => 7
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S2048x1024, .f32⟩
  | .hbm, ⟨3, _⟩ => ⟨S1024x1024, .f32⟩
  | .hbm, ⟨4, _⟩ => ⟨S2048x1, .i32⟩
  | .hbm, ⟨5, _⟩ => ⟨S1x2048, .i32⟩
  | .hbm, ⟨6, _⟩ => ⟨S1x12x2048x2048, .f32⟩
  | .local _ .vmem, ⟨0, _⟩ => ⟨S2048x1024, .f32⟩
  | .local _ .vmem, ⟨1, _⟩ => ⟨S1024x1024, .f32⟩
  | .local _ .vmem, ⟨2, _⟩ => ⟨S2048x1, .i32⟩
  | .local _ .vmem, ⟨3, _⟩ => ⟨S1x2048, .i32⟩
  | .local _ .vmem, ⟨4, _⟩ => ⟨S256x1, .i32⟩
  | .local _ .vmem, ⟨5, _⟩ => ⟨S256x1, .i32⟩
  | .local _ .vmem, ⟨6, _⟩ => ⟨S1x2048, .i32⟩
  | .local _ .vmem, ⟨7, _⟩ => ⟨S1x1x256x2048, .f32⟩
  | .local _ .vmem, ⟨8, _⟩ => ⟨S1x1x256x2048, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![12, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F] [Named F]
def κ : String → Option EReal := fun
  | "far" => some ⊤
  | _ => none
-- ==== ReferenceIdeal.lean ====
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S_ : Shape := ⟨0, ![]⟩
abbrev S2048 : Shape := ⟨1, ![2048]⟩
abbrev S45x1024 : Shape := ⟨2, ![45, 1024]⟩
abbrev S2048x1 : Shape := ⟨2, ![2048, 1]⟩
abbrev S45 : Shape := ⟨1, ![45]⟩
abbrev S1024x45 : Shape := ⟨2, ![1024, 45]⟩
abbrev S2048x45 : Shape := ⟨2, ![2048, 45]⟩
abbrev S1x45 : Shape := ⟨2, ![1, 45]⟩
abbrev S45x1 : Shape := ⟨2, ![45, 1]⟩
abbrev S1x2048 : Shape := ⟨2, ![1, 2048]⟩
abbrev S1x1x2048 : Shape := ⟨3, ![1, 1, 2048]⟩
abbrev S1x12x2048 : Shape := ⟨3, ![1, 12, 2048]⟩
abbrev S1x12x2048x1 : Shape := ⟨4, ![1, 12, 2048, 1]⟩
abbrev S1x12x1x2048 : Shape := ⟨4, ![1, 12, 1, 2048]⟩
abbrev S1x12x2048x2048 : Shape := ⟨4, ![1, 12, 2048, 2048]⟩

abbrev nBuf : Space → Nat
  | .hbm => 82
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S1x2048x1024, .f32⟩
  | .hbm, ⟨6, _⟩ => ⟨S2048x1024, .f32⟩
  | .hbm, ⟨7, _⟩ => ⟨S_, .i32⟩
  | .hbm, ⟨8, _⟩ => ⟨S2048, .i32⟩
  | .hbm, ⟨9, _⟩ => ⟨S45x1024, .f32⟩
  | .hbm, ⟨10, _⟩ => ⟨S_, .i32⟩
  | .hbm, ⟨11, _⟩ => ⟨S_, .i32⟩
  | .hbm, ⟨12, _⟩ => ⟨S2048x1024, .f32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S45x1024, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S45x1024, .f32⟩
  | .hbm, ⟨26, _⟩ => ⟨S_, .f32⟩
  | .hbm, ⟨27, _⟩ => ⟨S45, .f32⟩
  | .hbm, ⟨28, _⟩ => ⟨S1024x45, .f32⟩
  | .hbm, ⟨29, _⟩ => ⟨S2048x45, .f32⟩
  | .hbm, ⟨30, _⟩ => ⟨S_, .f32⟩
  | .hbm, ⟨31, _⟩ => ⟨S2048x45, .f32⟩
  | .hbm, ⟨32, _⟩ => ⟨S2048x45, .f32⟩
  | .hbm, ⟨33, _⟩ => ⟨S2048x45, .f32⟩
  | .hbm, ⟨34, _⟩ => ⟨S2048x45, .f32⟩
  | .hbm, ⟨35, _⟩ => ⟨S1x45, .f32⟩
  | .hbm, ⟨36, _⟩ => ⟨S2048x45, .f32⟩
  | .hbm, ⟨37, _⟩ => ⟨S2048x45, .f32⟩
  | .hbm, ⟨38, _⟩ => ⟨S2048x45, .i32⟩
  | .hbm, ⟨39, _⟩ => ⟨S_, .f32⟩
  | .hbm, ⟨40, _⟩ => ⟨S_, .i32⟩
  | .hbm, ⟨41, _⟩ => ⟨S2048, .f32⟩
  | .hbm, ⟨42, _⟩ => ⟨S2048, .i32⟩
  | .hbm, ⟨43, _⟩ => ⟨S_, .f32⟩
  | .hbm, ⟨44, _⟩ => ⟨S45x1024, .f32⟩
  | .hbm, ⟨45, _⟩ => ⟨S2048x1, .i32⟩
  | .hbm, ⟨46, _⟩ => ⟨S45x1024, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S45, .f32⟩
  | .hbm, ⟨51, _⟩ => ⟨S2048x1, .i32⟩
  | .hbm, ⟨52, _⟩ => ⟨S45, .f32⟩
  | .hbm, ⟨53, _⟩ => ⟨S_, .f32⟩
  | .hbm, ⟨54, _⟩ => ⟨S45, .f32⟩
  | .hbm, ⟨55, _⟩ => ⟨S45, .f32⟩
  | .hbm, ⟨56, _⟩ => ⟨S45x1, .f32⟩
  | .hbm, ⟨57, _⟩ => ⟨S45x1024, .f32⟩
  | .hbm, ⟨58, _⟩ => ⟨S45x1024, .f32⟩
  | .hbm, ⟨59, _⟩ => ⟨S_, .f32⟩
  | .hbm, ⟨60, _⟩ => ⟨S45, .f32⟩
  | .hbm, ⟨61, _⟩ => ⟨S45, .i1⟩
  | .hbm, ⟨62, _⟩ => ⟨S45x1, .i1⟩
  | .hbm, ⟨63, _⟩ => ⟨S45x1024, .i1⟩
  | .hbm, ⟨64, _⟩ => ⟨S45x1024, .f32⟩
  | .hbm, ⟨65, _⟩ => ⟨S_, .i32⟩
  | .hbm, ⟨66, _⟩ => ⟨S_, .i32⟩
  | .hbm, ⟨67, _⟩ => ⟨S1x2048, .i32⟩
  | .hbm, ⟨68, _⟩ => ⟨S1x1x2048, .i32⟩
  | .hbm, ⟨69, _⟩ => ⟨S1x12x2048, .i32⟩
  | .hbm, ⟨70, _⟩ => ⟨S1x12x2048x1, .i32⟩
  | .hbm, ⟨71, _⟩ => ⟨S1x12x1x2048, .i32⟩
  | .hbm, ⟨72, _⟩ => ⟨S1x12x2048x2048, .i32⟩
  | .hbm, ⟨73, _⟩ => ⟨S1x12x2048x2048, .i32⟩
  | .hbm, ⟨74, _⟩ => ⟨S1x12x2048x2048, .i1⟩
  | .hbm, ⟨75, _⟩ => ⟨S1x12x2048x2048, .f32⟩
  | .hbm, ⟨76, _⟩ => ⟨S_, .f32⟩
  | .hbm, ⟨77, _⟩ => ⟨S1x12x2048x2048, .f32⟩
  | .hbm, ⟨78, _⟩ => ⟨S1x12x2048x2048, .f32⟩
  | .hbm, ⟨79, _⟩ => ⟨S_, .f32⟩
  | .hbm, ⟨80, _⟩ => ⟨S1x12x2048x2048, .f32⟩
  | .hbm, ⟨81, _⟩ => ⟨S1x12x2048x2048, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_c_1 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_while0c_c_7 : Ref sig .tc := ⟨.hbm, 17, rfl⟩
abbrev main_while0c_v21 : Ref sig .tc := ⟨.hbm, 18, rfl⟩
abbrev main_while0b_c_7 : Ref sig .tc := ⟨.hbm, 19, rfl⟩
abbrev main_while0b_v21 : Ref sig .tc := ⟨.hbm, 20, rfl⟩
abbrev main_while0b_v22 : Ref sig .tc := ⟨.hbm, 21, rfl⟩
abbrev main_while0b_cst_8 : Ref sig .tc := ⟨.hbm, 22, rfl⟩
abbrev main_while0b_v23 : Ref sig .tc := ⟨.hbm, 23, rfl⟩
abbrev main_while0b_v24 : Ref sig .tc := ⟨.hbm, 24, rfl⟩
abbrev main_while0b_v25 : Ref sig .tc := ⟨.hbm, 25, rfl⟩
abbrev main_while0b_cst_9 : Ref sig .tc := ⟨.hbm, 26, rfl⟩
abbrev main_while0b_v26 : Ref sig .tc := ⟨.hbm, 27, rfl⟩
abbrev main_while0b_v27 : Ref sig .tc := ⟨.hbm, 28, rfl⟩
abbrev main_while0b_v28 : Ref sig .tc := ⟨.hbm, 29, rfl⟩
abbrev main_while0b_cst_10 : Ref sig .tc := ⟨.hbm, 30, rfl⟩
abbrev main_while0b_v29 : Ref sig .tc := ⟨.hbm, 31, rfl⟩
abbrev main_while0b_v30 : Ref sig .tc := ⟨.hbm, 32, rfl⟩
abbrev main_while0b_v31 : Ref sig .tc := ⟨.hbm, 33, rfl⟩
abbrev main_while0b_v32 : Ref sig .tc := ⟨.hbm, 34, rfl⟩
abbrev main_while0b_v33 : Ref sig .tc := ⟨.hbm, 35, rfl⟩
abbrev main_while0b_v34 : Ref sig .tc := ⟨.hbm, 36, rfl⟩
abbrev main_while0b_v35 : Ref sig .tc := ⟨.hbm, 37, rfl⟩
abbrev main_while0b_call0_v0 : Ref sig .tc := ⟨.hbm, 38, rfl⟩
abbrev main_while0b_call0_cst : Ref sig .tc := ⟨.hbm, 39, rfl⟩
abbrev main_while0b_call0_c : Ref sig .tc := ⟨.hbm, 40, rfl⟩
abbrev main_while0b_call0_v1_0 : Ref sig .tc := ⟨.hbm, 41, rfl⟩
abbrev main_while0b_v36 : Ref sig .tc := ⟨.hbm, 42, rfl⟩
abbrev main_while0b_cst_11 : Ref sig .tc := ⟨.hbm, 43, rfl⟩
abbrev main_while0b_v37 : Ref sig .tc := ⟨.hbm, 44, rfl⟩
abbrev main_while0b_v38 : Ref sig .tc := ⟨.hbm, 45, rfl⟩
abbrev main_while0b_v39 : Ref sig .tc := ⟨.hbm, 46, rfl⟩
abbrev main_while0b_cst_12 : Ref sig .tc := ⟨.hbm, 47, rfl⟩
abbrev main_while0b_v40 : Ref sig .tc := ⟨.hbm, 48, rfl⟩
abbrev main_while0b_cst_13 : Ref sig .tc := ⟨.hbm, 49, rfl⟩
abbrev main_while0b_v41 : Ref sig .tc := ⟨.hbm, 50, rfl⟩
abbrev main_while0b_v42 : Ref sig .tc := ⟨.hbm, 51, rfl⟩
abbrev main_while0b_v43 : Ref sig .tc := ⟨.hbm, 52, rfl⟩
abbrev main_while0b_cst_14 : Ref sig .tc := ⟨.hbm, 53, rfl⟩
abbrev main_while0b_v44 : Ref sig .tc := ⟨.hbm, 54, rfl⟩
abbrev main_while0b_v45 : Ref sig .tc := ⟨.hbm, 55, rfl⟩
abbrev main_while0b_v46 : Ref sig .tc := ⟨.hbm, 56, rfl⟩
abbrev main_while0b_v47 : Ref sig .tc := ⟨.hbm, 57, rfl⟩
abbrev main_while0b_v48 : Ref sig .tc := ⟨.hbm, 58, rfl⟩
abbrev main_while0b_cst_15 : Ref sig .tc := ⟨.hbm, 59, rfl⟩
abbrev main_while0b_v49 : Ref sig .tc := ⟨.hbm, 60, rfl⟩
abbrev main_while0b_v50 : Ref sig .tc := ⟨.hbm, 61, rfl⟩
abbrev main_while0b_v51 : Ref sig .tc := ⟨.hbm, 62, rfl⟩
abbrev main_while0b_call1_v0 : Ref sig .tc := ⟨.hbm, 63, rfl⟩
abbrev main_while0b_v52 : Ref sig .tc := ⟨.hbm, 64, rfl⟩
abbrev main_while0b_c_16 : Ref sig .tc := ⟨.hbm, 65, rfl⟩
abbrev main_while0b_v53 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_cst : Ref sig .tc := ⟨.hbm, 76, rfl⟩
abbrev main_v17 : Ref sig .tc := ⟨.hbm, 77, rfl⟩
abbrev main_v18 : Ref sig .tc := ⟨.hbm, 78, rfl⟩
abbrev main_cst_2 : Ref sig .tc := ⟨.hbm, 79, rfl⟩
abbrev main_v19 : Ref sig .tc := ⟨.hbm, 80, rfl⟩
abbrev main_v20 : Ref sig .tc := ⟨.hbm, 81, rfl⟩

abbrev nD : Nat := 1
abbrev τ : Topo := Topo.v7x

variable {F : FTy → Type} [FloatOps F]

abbrev main_while0_count : Scf.Loop 32 := ⟨0#32, 10#32, 1#32⟩
-- ==== Proof.KerSteps.lean ====
/- The assignment kernel as ten equal steps: its distances, its row-wise choice of a centroid and its new centroids as functions,
   and the values its body names as those functions applied in turn. -/
module

public import proofs.«01_k».proof.Proof.Gen.KernelIdeal.Frame

@[expose] public section

set_option maxRecDepth 16384

noncomputable section

namespace Cert.Proof.Ker

open Idealize.ShloMosaic Idealize.SL.Sem Cert.KernelIdeal Cert.KernelIdeal.Gen
open TcCoe

variable {F : FTy → Type} [FloatOps F] [Named F]

/-- The column numbers of a row of distances. -/
def cols : IVec S1x48 32 := iota .tc S1x48 32 [1] iota_S1x48_d1_w32

/-- The squared norms of the centroids, the padding ones held far away. -/
def norms (c : FVec F S48x1024 .f32) : FVec F S1x48 .f32 :=
  select (cmpi .slt cols (broadcast S1x48 45#32))
    (shapeCast S1x48 (multiReduction .add [1] S48 (mulf c c) 0x00000000#32 reduces_S48x1024_S48 (.inl rfl) rfl) shapeCasts_S48_S1x48)
    (broadcast S1x48 (Named.named κ "far" 0x7F61B1E6#32))

/-- The distances of the rows to the centroids. -/
def dist (x2 : FVec F S2048x1 .f32) (h : FVec F S2048x1024 .bf16) (c : FVec F S48x1024 .f32) : FVec F S2048x48 .f32 :=
  addf (subf (broadcastTo S2048x48 x2 broadcasts_S2048x1_S2048x48)
      (mulf (broadcast S2048x48 (Scalar.ofBits .f32 0x40000000#32))
        (matmul dot_S2048x1024_S48x1024_S2048x48_1_1_0_0_n_n none h (truncf .bf16 c bitsLt_bf16_f32) (constant S2048x48 .f32 0x00000000#32))))
    (broadcastTo S2048x48 (norms c) broadcasts_S1x48_S2048x48)

/-- The least column at which a row reaches its minimum. -/
def pick (d : FVec F S2048x48 .f32) : IVec S2048 32 :=
  multiReductionI .minsi [1] S2048
    (select (cmpf .oeq d (broadcastTo S2048x48 (shapeCast S2048x1
          (multiReduction .minimumf [1] S2048 d 0x7F800000#32 reduces_S2048x48_S2048 (.inl rfl) rfl) shapeCasts_S2048_S2048x1) broadcasts_S2048x1_S2048x48))
      (broadcastTo S2048x48 (shapeCast S1x48 cols shapeCasts_S1x48_S1x48) broadcasts_S1x48_S2048x48)
      (broadcast S2048x48 48#32))
    2147483647#32 reduces_S2048x48_S2048 rfl

/-- Where a row's choice is the column. -/
def hot (a : IVec S2048 32) : IVec S2048x48 1 :=
  cmpi .eq (broadcastTo S2048x48 (shapeCast S2048x1 a shapeCasts_S2048_S2048x1) broadcasts_S2048x1_S2048x48)
    (broadcastTo S2048x48 cols broadcasts_S1x48_S2048x48)

/-- That indicator as numbers. -/
def hotf (a : IVec S2048 32) : FVec F S2048x48 .f32 := sitofp .f32 (extui 32 (hot a) natLt_1_32)

/-- How many rows chose each centroid. -/
def counts (a : IVec S2048 32) : FVec F S48x1 .f32 :=
  shapeCast S48x1 (shapeCast S1x48 (multiReduction .add [0] S48 (hotf (F := F) a) 0x00000000#32 reduces_S2048x48_S48 (.inl rfl) rfl) shapeCasts_S48_S1x48) shapeCasts_S1x48_S48x1

/-- One part of the sums of the rows that chose each centroid. -/
def part (a : IVec S2048 32) (h : FVec F S2048x1024 .bf16) : FVec F S48x1024 .f32 :=
  matmul dot_S2048x48_S2048x1024_S48x1024_0_0_1_1_n_n none (truncf .bf16 (hotf a) bitsLt_bf16_f32) h (constant S48x1024 .f32 0x00000000#32)

/-- The new centroids. -/
def renew (h1 h2 h3 : FVec F S2048x1024 .bf16) (c : FVec F S48x1024 .f32) (a : IVec S2048 32) : FVec F S48x1024 .f32 :=
  select (broadcastTo S48x1024 (shapeCast S48x1 (cmpf .ogt (counts (F := F) a) (broadcast S48x1 (Scalar.ofBits .f32 0x00000000#32))) shapeCasts_S48x1_S48x1) broadcasts_S48x1_S48x1024)
    (divf (addf (addf (part a h1) (part a h2)) (part a h3))
      (broadcastTo S48x1024 (maximumf (counts a) (broadcast S48x1 (Scalar.ofBits .f32 0x3F800000#32))) broadcasts_S48x1_S48x1024))
    c

section Steps

variable (x0 : Vec F S2048x1024 .f32) (x1 : Vec F S1024x1024 .f32)

/-- The choice at the centroids `c`. -/
def choose (c : FVec F S48x1024 .f32) : IVec S2048 32 := pick (dist (k0_pay38 x0 x1) (k0_pay39 x0 x1) c)

/-- One step from the centroids `c`. -/
def step (c : FVec F S48x1024 .f32) : FVec F S48x1024 .f32 :=
  renew (k0_pay39 x0 x1) (k0_pay40 x0 x1) (k0_pay41 x0 x1) c (choose x0 x1 c)

/-- The centroids after `k` steps. -/
def cents (k : ℕ) : FVec F S48x1024 .f32 := (step x0 x1)^[k] (k0_pay42 x0 x1)

/-- One more step. -/
theorem cents_succ (k : ℕ) : cents x0 x1 (k + 1) = step x0 x1 (cents x0 x1 k) := Function.iterate_succ_apply' ..

/-- The second centroids the body names. -/
theorem pay44_eq : k0_pay44 x0 x1 = cents x0 x1 1 := rfl
/-- The third. -/
theorem pay47_eq : k0_pay47 x0 x1 = cents x0 x1 2 := by
  rw [cents_succ, ← pay44_eq]; rfl
/-- The fourth. -/
theorem pay50_eq : k0_pay50 x0 x1 = cents x0 x1 3 := by
  rw [cents_succ, ← pay47_eq]; rfl
/-- The fifth. -/
theorem pay52_eq : k0_pay52 x0 x1 = cents x0 x1 4 := by
  rw [cents_succ, ← pay50_eq]; rfl
/-- The sixth. -/
theorem pay56_eq : k0_pay56 x0 x1 = cents x0 x1 5 := by
  rw [cents_succ, ← pay52_eq]; rfl
/-- The seventh. -/
theorem pay59_eq : k0_pay59 x0 x1 = cents x0 x1 6 := by
  rw [cents_succ, ← pay56_eq]; rfl
/-- The ninth: the body does not name the eighth by itself. -/
theorem pay63_eq : k0_pay63 x0 x1 = cents x0 x1 8 := by
  rw [cents_succ, cents_succ, ← pay59_eq]; rfl

/-- The assignment the kernel ends at: the choice at the tenth centroids. -/
def assign : IVec S2048 32 := choose x0 x1 (cents x0 x1 9)

/-- The stored column of assignments. -/
theorem pay1_eq : k0_pay1 (k0_pay38 x0 x1) (k0_pay39 x0 x1) (k0_pay37 x0 x1) (k0_pay63 x0 x1) (k0_pay64 x0 x1) (k0_pay65 x0 x1) (k0_pay66 x0 x1)
    = shapeCast S2048x1 (assign x0 x1) shapeCasts_S2048_S2048x1 := by
  rw [assign, cents_succ, ← pay63_eq]; rfl

/-- The stored row of assignments. -/
theorem pay2_eq : k0_pay2 (k0_pay38 x0 x1) (k0_pay39 x0 x1) (k0_pay37 x0 x1) (k0_pay63 x0 x1) (k0_pay64 x0 x1) (k0_pay65 x0 x1) (k0_pay66 x0 x1)
    = shapeCast S1x2048 (shapeCast S2048x1 (assign x0 x1) shapeCasts_S2048_S2048x1) shapeCasts_S2048x1_S1x2048 := by
  rw [← pay1_eq]; rfl

end Steps

end Cert.Proof.Ker

end
-- ==== Proof.RefOps.lean ====
/- The reference's host operations as lists, stretch by stretch: before the loop, the loop's condition, the five stretches of
   its body (the distances; the row-wise argmin; the cluster sums and counts; the choice of the new centroids; the carries)
   and the mask after the loop. Each list repeats the printed program's operations in their order. -/
module

public import proofs.«01_k».proof.ReferenceIdeal
public import proofs.«01_k».proof.Proof.Gen.ReferenceIdeal
public import Idealize.ShloMosaic.Lib.StableHlo.RunLoop
public import Idealize.ShloMosaic.Lib.StableHlo.RunRead
public import Idealize.ShloMosaic.Lib.Scf.ExitTest

@[expose] public section

set_option maxRecDepth 16384

noncomputable section

namespace Cert.Proof.Ref

open Idealize.ShloMosaic Idealize.SL.Sem Cert.ReferenceIdeal Cert.ReferenceIdeal.Gen
open TcCoe

variable {F : FTy → Type} [FloatOps F]

/-- The operations of @main before the loop. -/
abbrev preOps : List (HloOp τ sig (Elt F)) :=
  [ StableHlo.reshape main_arg0 main_v0 (rfl : (.f32 : EltTy) = .f32) shapeCasts_S1x2048x1024_S2048x1024,
    StableHlo.reshape main_arg1 main_v1 (rfl : (.f32 : EltTy) = .f32) shapeCasts_S1x1024x1024_S1024x1024,
    StableHlo.binary main_v0 main_v1 main_v2 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_v2 main_v3 (broadcastInDim S1x2048x1024 ![1, 2] bcast_S2048x1024_S1x2048x1024_1_2 : (⟨S2048x1024, .f32⟩ : BufTy).Contents (Elt F) → (⟨S1x2048x1024, .f32⟩ : BufTy).Contents (Elt F)),
    StableHlo.reshape main_v3 main_v4 (rfl : (.f32 : EltTy) = .f32) shapeCasts_S1x2048x1024_S2048x1024,
    StableHlo.nullary main_c (constantI S_ 32 0#32),
    StableHlo.unary main_c main_v5 (broadcastInDim S2048 ![] bcast_S_S2048 : (⟨S_, .i32⟩ : BufTy).Contents (Elt F) → (⟨S2048, .i32⟩ : BufTy).Contents (Elt F)),
    StableHlo.unary main_v4 main_v6 ((extractStridedSlice S45x1024 ![0, 0] · slices_S2048x1024_S45x1024_0_0) : (⟨S2048x1024, .f32⟩ : BufTy).Contents (Elt F) → (⟨S45x1024, .f32⟩ : BufTy).Contents (Elt F)),
    StableHlo.nullary main_c_0 (constantI S_ 32 0#32),
    StableHlo.nullary main_c_1 (constantI S_ 32 0#32),
    StableHlo.unary main_v4 main_v7_0 id,
    StableHlo.unary main_c_1 main_v7_1 id,
    StableHlo.unary main_c_0 main_v7_2 id,
    StableHlo.unary main_v5 main_v7_3 id,
    StableHlo.unary main_v6 main_v7_4 id ]

/-- The operations of `preOps` touch TensorCore references only. -/
theorem preOps_sub : (preOps : List (HloOp τ sig (Elt F))).Forall fun op => op.bufs ⊆ StableHlo.tcRefs τ sig :=
  ⟨StableHlo.reshape_bufs_sub .., StableHlo.reshape_bufs_sub .., StableHlo.binary_bufs_sub .., StableHlo.unary_bufs_sub .., StableHlo.reshape_bufs_sub .., StableHlo.nullary_bufs_sub .., StableHlo.unary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩

/-- The operations of the loop's condition. -/
abbrev condOps : List (HloOp τ sig (Elt F)) :=
  [ StableHlo.nullary main_while0c_c_7 (constantI S_ 32 10#32),
    StableHlo.binary main_v7_1 main_while0c_c_7 main_while0c_v21 (cmpi .slt : (⟨S_, .i32⟩ : BufTy).Contents (Elt F) → (⟨S_, .i32⟩ : BufTy).Contents (Elt F) → (⟨S_, .i1⟩ : BufTy).Contents (Elt F)) ]

/-- The operations of `condOps` touch TensorCore references only. -/
theorem condOps_sub : (condOps : List (HloOp τ sig (Elt F))).Forall fun op => op.bufs ⊆ StableHlo.tcRefs τ sig :=
  ⟨StableHlo.nullary_bufs_sub .., StableHlo.binary_bufs_sub ..⟩

/-- The distances: the first stretch of the loop's body. -/
abbrev distOps : List (HloOp τ sig (Elt F)) :=
  [ StableHlo.nullary main_while0b_c_7 (constantI S_ 32 1#32),
    StableHlo.binary main_v7_2 main_while0b_c_7 main_while0b_v21 (addi : (⟨S_, .i32⟩ : BufTy).Contents (Elt F) → (⟨S_, .i32⟩ : BufTy).Contents (Elt F) → (⟨S_, .i32⟩ : BufTy).Contents (Elt F)),
    StableHlo.binary main_v7_0 main_v7_0 main_while0b_v22 (mulf : (⟨S2048x1024, .f32⟩ : BufTy).Contents (Elt F) → (⟨S2048x1024, .f32⟩ : BufTy).Contents (Elt F) → (⟨S2048x1024, .f32⟩ : BufTy).Contents (Elt F)),
    StableHlo.nullary main_while0b_cst_8 (constant S_ .f32 0x00000000#32),
    StableHlo.binary main_while0b_v22 main_while0b_cst_8 main_while0b_v23 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    StableHlo.unary main_while0b_v23 main_while0b_v24 (broadcastInDim S2048x1 ![0] bcast_S2048_S2048x1_0 : (⟨S2048, .f32⟩ : BufTy).Contents (Elt F) → (⟨S2048x1, .f32⟩ : BufTy).Contents (Elt F)),
    StableHlo.binary main_v7_4 main_v7_4 main_while0b_v25 (mulf : (⟨S45x1024, .f32⟩ : BufTy).Contents (Elt F) → (⟨S45x1024, .f32⟩ : BufTy).Contents (Elt F) → (⟨S45x1024, .f32⟩ : BufTy).Contents (Elt F)),
    StableHlo.nullary main_while0b_cst_9 (constant S_ .f32 0x00000000#32),
    StableHlo.binary main_while0b_v25 main_while0b_cst_9 main_while0b_v26 ((fun x v => Host.reduceAdd x v reducesTo_S45x1024_S45_d1 h_S_) : (⟨S45x1024, .f32⟩ : BufTy).Contents (Elt F) → (⟨S_, .f32⟩ : BufTy).Contents (Elt F) → (⟨S45, .f32⟩ : BufTy).Contents (Elt F)),
    StableHlo.unary main_v7_4 main_while0b_v27 ((transpose S1024x45 [1, 0] · transposes_S45x1024_S1024x45_1_0) : (⟨S45x1024, .f32⟩ : BufTy).Contents (Elt F) → (⟨S1024x45, .f32⟩ : BufTy).Contents (Elt F)),
    StableHlo.binary main_v7_0 main_while0b_v27 main_while0b_v28 ((fun l r => Host.dotGeneral dot_S2048x1024_S1024x45_S2048x45_1_0_0_1_n_n none l r) : (⟨S2048x1024, .f32⟩ : BufTy).Contents (Elt F) → (⟨S1024x45, .f32⟩ : BufTy).Contents (Elt F) → (⟨S2048x45, .f32⟩ : BufTy).Contents (Elt F)),
    StableHlo.nullary main_while0b_cst_10 (constant S_ .f32 0x40000000#32),
    StableHlo.unary main_while0b_cst_10 main_while0b_v29 (broadcastInDim S2048x45 ![] bcast_S_S2048x45 : (⟨S_, .f32⟩ : BufTy).Contents (Elt F) → (⟨S2048x45, .f32⟩ : BufTy).Contents (Elt F)),
    StableHlo.binary main_while0b_v29 main_while0b_v28 main_while0b_v30 (mulf : (⟨S2048x45, .f32⟩ : BufTy).Contents (Elt F) → (⟨S2048x45, .f32⟩ : BufTy).Contents (Elt F) → (⟨S2048x45, .f32⟩ : BufTy).Contents (Elt F)),
    StableHlo.unary main_while0b_v24 main_while0b_v31 (broadcastInDim S2048x45 ![0, 1] bcast_S2048x1_S2048x45_0_1 : (⟨S2048x1, .f32⟩ : BufTy).Contents (Elt F) → (⟨S2048x45, .f32⟩ : BufTy).Contents (Elt F)),
    StableHlo.binary main_while0b_v31 main_while0b_v30 main_while0b_v32 (subf : (⟨S2048x45, .f32⟩ : BufTy).Contents (Elt F) → (⟨S2048x45, .f32⟩ : BufTy).Contents (Elt F) → (⟨S2048x45, .f32⟩ : BufTy).Contents (Elt F)),
    StableHlo.unary main_while0b_v26 main_while0b_v33 (broadcastInDim S1x45 ![1] bcast_S45_S1x45_1 : (⟨S45, .f32⟩ : BufTy).Contents (Elt F) → (⟨S1x45, .f32⟩ : BufTy).Contents (Elt F)),
    StableHlo.unary main_while0b_v33 main_while0b_v34 (broadcastInDim S2048x45 ![0, 1] bcast_S1x45_S2048x45_0_1 : (⟨S1x45, .f32⟩ : BufTy).Contents (Elt F) → (⟨S2048x45, .f32⟩ : BufTy).Contents (Elt F)),
    StableHlo.binary main_while0b_v32 main_while0b_v34 main_while0b_v35 (addf : (⟨S2048x45, .f32⟩ : BufTy).Contents (Elt F) → (⟨S2048x45, .f32⟩ : BufTy).Contents (Elt F) → (⟨S2048x45, .f32⟩ : BufTy).Contents (Elt F)) ]

/-- The operations of `distOps` touch TensorCore references only. -/
theorem distOps_sub : (distOps : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- The row-wise argmin: the second stretch of the loop's body. -/
abbrev argOps : List (HloOp τ sig (Elt F)) :=
  [ StableHlo.TRef.nullary main_while0b_call0.v0 (iotaInDim S2048x45 32 1),
    StableHlo.TRef.nullary main_while0b_call0.cst (constant S_ .f32 0x7F800000#32),
    StableHlo.TRef.nullary main_while0b_call0.c (constantI S_ 32 0#32),
    StableHlo.TRef.quaternary (.of main_while0b_v35 : StableHlo.TRef sig ⟨S2048x45, .f32⟩) main_while0b_call0.v0 main_while0b_call0.cst main_while0b_call0.c main_while0b_call0.v1_0 (fun x y u v j => (Host.argReduce reducer_argmin_f32_i32 x y u v reducesTo_S2048x45_S2048_d1 h_S_ j).1),
    StableHlo.TRef.quaternary (.of main_while0b_v35 : StableHlo.TRef sig ⟨S2048x45, .f32⟩) main_while0b_call0.v0 main_while0b_call0.cst main_while0b_call0.c main_while0b_call0.v1_1 (fun x y u v j => (Host.argReduce reducer_argmin_f32_i32 x y u v reducesTo_S2048x45_S2048_d1 h_S_ j).2) ]

/-- The operations of `argOps` touch TensorCore references only. -/
theorem argOps_sub : (argOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The sums and counts: the third stretch of the loop's body. -/
abbrev sumOps : List (HloOp τ sig (Elt F)) :=
  [ StableHlo.nullary main_while0b_cst_11 (constant S_ .f32 0x00000000#32),
    StableHlo.unary main_while0b_cst_11 main_while0b_v37 (broadcastInDim S45x1024 ![] bcast_S_S45x1024 : (⟨S_, .f32⟩ : BufTy).Contents (Elt F) → (⟨S45x1024, .f32⟩ : BufTy).Contents (Elt F)),
    StableHlo.unary main_while0b_v36 main_while0b_v38 (broadcastInDim S2048x1 ![0] bcast_S2048_S2048x1_0 : (⟨S2048, .i32⟩ : BufTy).Contents (Elt F) → (⟨S2048x1, .i32⟩ : BufTy).Contents (Elt F)),
    StableHlo.ternary main_while0b_v37 main_while0b_v38 main_v7_0 main_while0b_v39 ((fun x i u => Host.scatterAdd scatter_S45x1024_S2048x1_S2048x1024_1_0_0_1 x i u) : (⟨S45x1024, .f32⟩ : BufTy).Contents (Elt F) → (⟨S2048x1, .i32⟩ : BufTy).Contents (Elt F) → (⟨S2048x1024, .f32⟩ : BufTy).Contents (Elt F) → (⟨S45x1024, .f32⟩ : BufTy).Contents (Elt F)),
    StableHlo.nullary main_while0b_cst_12 (constant S_ .f32 0x3F800000#32),
    StableHlo.unary main_while0b_cst_12 main_while0b_v40 (broadcastInDim S2048 ![] bcast_S_S2048 : (⟨S_, .f32⟩ : BufTy).Contents (Elt F) → (⟨S2048, .f32⟩ : BufTy).Contents (Elt F)),
    StableHlo.nullary main_while0b_cst_13 (constant S_ .f32 0x00000000#32),
    StableHlo.unary main_while0b_cst_13 main_while0b_v41 (broadcastInDim S45 ![] bcast_S_S45 : (⟨S_, .f32⟩ : BufTy).Contents (Elt F) → (⟨S45, .f32⟩ : BufTy).Contents (Elt F)),
    StableHlo.unary main_while0b_v36 main_while0b_v42 (broadcastInDim S2048x1 ![0] bcast_S2048_S2048x1_0 : (⟨S2048, .i32⟩ : BufTy).Contents (Elt F) → (⟨S2048x1, .i32⟩ : BufTy).Contents (Elt F)),
    StableHlo.ternary main_while0b_v41 main_while0b_v42 main_while0b_v40 main_while0b_v43 ((fun x i u => Host.scatterAdd scatter_S45_S2048x1_S2048_n_0_0_1 x i u) : (⟨S45, .f32⟩ : BufTy).Contents (Elt F) → (⟨S2048x1, .i32⟩ : BufTy).Contents (Elt F) → (⟨S2048, .f32⟩ : BufTy).Contents (Elt F) → (⟨S45, .f32⟩ : BufTy).Contents (Elt F)),
    StableHlo.nullary main_while0b_cst_14 (constant S_ .f32 0x3F800000#32),
    StableHlo.unary main_while0b_cst_14 main_while0b_v44 (broadcastInDim S45 ![] bcast_S_S45 : (⟨S_, .f32⟩ : BufTy).Contents (Elt F) → (⟨S45, .f32⟩ : BufTy).Contents (Elt F)),
    StableHlo.binary main_while0b_v43 main_while0b_v44 main_while0b_v45 (maximumf : (⟨S45, .f32⟩ : BufTy).Contents (Elt F) → (⟨S45, .f32⟩ : BufTy).Contents (Elt F) → (⟨S45, .f32⟩ : BufTy).Contents (Elt F)),
    StableHlo.unary main_while0b_v45 main_while0b_v46 (broadcastInDim S45x1 ![0] bcast_S45_S45x1_0 : (⟨S45, .f32⟩ : BufTy).Contents (Elt F) → (⟨S45x1, .f32⟩ : BufTy).Contents (Elt F)),
    StableHlo.unary main_while0b_v46 main_while0b_v47 (broadcastInDim S45x1024 ![0, 1] bcast_S45x1_S45x1024_0_1 : (⟨S45x1, .f32⟩ : BufTy).Contents (Elt F) → (⟨S45x1024, .f32⟩ : BufTy).Contents (Elt F)),
    StableHlo.binary main_while0b_v39 main_while0b_v47 main_while0b_v48 (Host.divf : (⟨S45x1024, .f32⟩ : BufTy).Contents (Elt F) → (⟨S45x1024, .f32⟩ : BufTy).Contents (Elt F) → (⟨S45x1024, .f32⟩ : BufTy).Contents (Elt F)),
    StableHlo.nullary main_while0b_cst_15 (constant S_ .f32 0x00000000#32),
    StableHlo.unary main_while0b_cst_15 main_while0b_v49 (broadcastInDim S45 ![] bcast_S_S45 : (⟨S_, .f32⟩ : BufTy).Contents (Elt F) → (⟨S45, .f32⟩ : BufTy).Contents (Elt F)),
    StableHlo.binary main_while0b_v43 main_while0b_v49 main_while0b_v50 (cmpf .ogt : (⟨S45, .f32⟩ : BufTy).Contents (Elt F) → (⟨S45, .f32⟩ : BufTy).Contents (Elt F) → (⟨S45, .i1⟩ : BufTy).Contents (Elt F)),
    StableHlo.unary main_while0b_v50 main_while0b_v51 (broadcastInDim S45x1 ![0] bcast_S45_S45x1_0 : (⟨S45, .i1⟩ : BufTy).Contents (Elt F) → (⟨S45x1, .i1⟩ : BufTy).Contents (Elt F)) ]

/-- The operations of `sumOps` touch TensorCore references only. -/
theorem sumOps_sub : (sumOps : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩

/-- The choice of the new centroids: the fourth stretch of the loop's body. -/
abbrev selOps : List (HloOp τ sig (Elt F)) :=
  [ StableHlo.TRef.unary (.of main_while0b_v51 : StableHlo.TRef sig ⟨S45x1, .i1⟩) main_while0b_call1.v0 (broadcastInDim S45x1024 ![0, 1] bcast_S45x1_S45x1024_0_1),
    StableHlo.TRef.ternary main_while0b_call1.v0 (.of main_while0b_v48 : StableHlo.TRef sig ⟨S45x1024, .f32⟩) (.of main_v7_4 : StableHlo.TRef sig ⟨S45x1024, .f32⟩) main_while0b_call1.v1 select ]

/-- The operations of `selOps` touch TensorCore references only. -/
theorem selOps_sub : (selOps : List (HloOp τ sig (Elt F))).Forall fun op => op.bufs ⊆ StableHlo.tcRefs τ sig :=
  ⟨StableHlo.unary_bufs_sub .., StableHlo.ternary_bufs_sub ..⟩

/-- The carried values: the last stretch of the loop's body. -/
abbrev carryOps : List (HloOp τ sig (Elt F)) :=
  [ StableHlo.nullary main_while0b_c_16 (constantI S_ 32 1#32),
    StableHlo.binary main_v7_1 main_while0b_c_16 main_while0b_v53 (addi : (⟨S_, .i32⟩ : BufTy).Contents (Elt F) → (⟨S_, .i32⟩ : BufTy).Contents (Elt F) → (⟨S_, .i32⟩ : BufTy).Contents (Elt F)),
    StableHlo.unary main_while0b_v53 main_v7_1 id,
    StableHlo.unary main_while0b_v21 main_v7_2 id,
    StableHlo.unary main_while0b_v36 main_v7_3 id,
    StableHlo.unary main_while0b_v52 main_v7_4 id ]

/-- The operations of `carryOps` touch TensorCore references only. -/
theorem carryOps_sub : (carryOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The operations of @main after the loop. -/
abbrev postOps : List (HloOp τ sig (Elt F)) :=
  [ StableHlo.reshape main_v7_3 main_v8 (rfl : (.i32 : EltTy) = .i32) shapeCasts_S2048_S1x2048,
    StableHlo.unary main_v8 main_v9 (broadcastInDim S1x1x2048 ![0, 2] bcast_S1x2048_S1x1x2048_0_2 : (⟨S1x2048, .i32⟩ : BufTy).Contents (Elt F) → (⟨S1x1x2048, .i32⟩ : BufTy).Contents (Elt F)),
    StableHlo.unary main_v9 main_v10 (broadcastInDim S1x12x2048 ![0, 1, 2] bcast_S1x1x2048_S1x12x2048_0_1_2 : (⟨S1x1x2048, .i32⟩ : BufTy).Contents (Elt F) → (⟨S1x12x2048, .i32⟩ : BufTy).Contents (Elt F)),
    StableHlo.unary main_v10 main_v11 (broadcastInDim S1x12x2048x1 ![0, 1, 2] bcast_S1x12x2048_S1x12x2048x1_0_1_2 : (⟨S1x12x2048, .i32⟩ : BufTy).Contents (Elt F) → (⟨S1x12x2048x1, .i32⟩ : BufTy).Contents (Elt F)),
    StableHlo.unary main_v10 main_v12 (broadcastInDim S1x12x1x2048 ![0, 1, 3] bcast_S1x12x2048_S1x12x1x2048_0_1_3 : (⟨S1x12x2048, .i32⟩ : BufTy).Contents (Elt F) → (⟨S1x12x1x2048, .i32⟩ : BufTy).Contents (Elt F)),
    StableHlo.unary main_v11 main_v13 (broadcastInDim S1x12x2048x2048 ![0, 1, 2, 3] bcast_S1x12x2048x1_S1x12x2048x2048_0_1_2_3 : (⟨S1x12x2048x1, .i32⟩ : BufTy).Contents (Elt F) → (⟨S1x12x2048x2048, .i32⟩ : BufTy).Contents (Elt F)),
    StableHlo.unary main_v12 main_v14 (broadcastInDim S1x12x2048x2048 ![0, 1, 2, 3] bcast_S1x12x1x2048_S1x12x2048x2048_0_1_2_3 : (⟨S1x12x1x2048, .i32⟩ : BufTy).Contents (Elt F) → (⟨S1x12x2048x2048, .i32⟩ : BufTy).Contents (Elt F)),
    StableHlo.binary main_v13 main_v14 main_v15 (cmpi .eq : (⟨S1x12x2048x2048, .i32⟩ : BufTy).Contents (Elt F) → (⟨S1x12x2048x2048, .i32⟩ : BufTy).Contents (Elt F) → (⟨S1x12x2048x2048, .i1⟩ : BufTy).Contents (Elt F)),
    StableHlo.unary main_v15 main_v16 (uitofp .f32 : (⟨S1x12x2048x2048, .i1⟩ : BufTy).Contents (Elt F) → (⟨S1x12x2048x2048, .f32⟩ : BufTy).Contents (Elt F)),
    StableHlo.nullary main_cst (constant S_ .f32 0x461C4000#32),
    StableHlo.unary main_cst main_v17 (broadcastInDim S1x12x2048x2048 ![] bcast_S_S1x12x2048x2048 : (⟨S_, .f32⟩ : BufTy).Contents (Elt F) → (⟨S1x12x2048x2048, .f32⟩ : BufTy).Contents (Elt F)),
    StableHlo.binary main_v17 main_v16 main_v18 (mulf : (⟨S1x12x2048x2048, .f32⟩ : BufTy).Contents (Elt F) → (⟨S1x12x2048x2048, .f32⟩ : BufTy).Contents (Elt F) → (⟨S1x12x2048x2048, .f32⟩ : BufTy).Contents (Elt F)),
    StableHlo.nullary main_cst_2 (constant S_ .f32 0x461C4000#32),
    StableHlo.unary main_cst_2 main_v19 (broadcastInDim S1x12x2048x2048 ![] bcast_S_S1x12x2048x2048 : (⟨S_, .f32⟩ : BufTy).Contents (Elt F) → (⟨S1x12x2048x2048, .f32⟩ : BufTy).Contents (Elt F)),
    StableHlo.binary main_v18 main_v19 main_v20 (subf : (⟨S1x12x2048x2048, .f32⟩ : BufTy).Contents (Elt F) → (⟨S1x12x2048x2048, .f32⟩ : BufTy).Contents (Elt F) → (⟨S1x12x2048x2048, .f32⟩ : BufTy).Contents (Elt F)) ]

/-- The operations of `postOps` touch TensorCore references only. -/
theorem postOps_sub : (postOps : List (HloOp τ sig (Elt F))).Forall fun op => op.bufs ⊆ StableHlo.tcRefs τ sig :=
  ⟨StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

/-- The stretches of the loop's body, in order. -/
abbrev bodyItems : List (List (HloOp τ sig (Elt F))) := [distOps, argOps, sumOps, selOps, carryOps]

/-- The loop's body is the chain of its five stretches. -/
theorem body_chain : main_while0_body (F := F) = Pipeline.chain
    ((bodyItems (F := F)).map fun ops => (StableHlo.seq ops : Prog (TpuEff nD τ sig (Elt F) (HostLoop.Sig (Pipeline.Sig Λ₀ (Fin 0) fun p => (pcfgs (F := F) p).Adm) 1) .tc) PUnit)) := by
  simp only [bodyItems, List.map_cons, List.map_nil]
  rewrite [StableHlo.chain_seq_cons, Pipeline.chain_cons, StableHlo.chain_seq_cons, Pipeline.chain_cons, StableHlo.chain_seq_cons]
  chain_rfl

/-- @main is the operations before the loop, the loop, the operations after it. -/
theorem main_chain (c : Dev nD) : main (F := F) c = Pipeline.chain
    ([StableHlo.seq preOps, HostLoop.enter 0, StableHlo.seq postOps] : List (Prog (TpuEff nD τ sig (Elt F) (HostLoop.Sig (Pipeline.Sig Λ₀ (Fin 0) fun p => (pcfgs (F := F) p).Adm) 1) .tc) PUnit)) := by
  rewrite [StableHlo.chain_seq_cons, Pipeline.chain_cons, StableHlo.chain_seq_cons]
  chain_rfl

end Cert.Proof.Ref

end
-- ==== Proof.RefRun.lean ====
/- The run of the reference: its loop's condition, the trip counter, and what every buffer holds at the end, with every
   semaphore counter at zero. -/
module

public import proofs.«01_k».proof.Proof.RefOps
public import Idealize.ShloMosaic.Lib.Scf.Counter

@[expose] public section

set_option maxRecDepth 16384

noncomputable section

namespace Cert.Proof.Ref

open Idealize.SL Idealize.SL.RA Idealize.SL.BI
open scoped Idealize.SL.BI
open Idealize.SL.BI.BIBase Idealize.SL.BI.Laws Idealize.SL.ProofMode
open Idealize.ShloMosaic Idealize.SL.Sem Cert.ReferenceIdeal Cert.ReferenceIdeal.Gen
open Idealize.ShloMosaic.StableHlo
open TcCoe

variable {F : FTy → Type} [FloatOps F]

/-- The loop makes ten trips. -/
theorem trips_ten : Scf.trips (0#32 : BitVec 32) 10#32 1#32 = 10 := by decide

/-- Before trip `k` the trip counter's word is `k` steps of one from zero. -/
theorem counter_at (V : Dev nD → Valuation τ sig (Elt F)) (h0 : ∀ c, V c main_v7_1 = fun _ => (0#32 : BitVec 32)) (c : Dev nD) :
    ∀ k, atTrip condOps bodyItems V k c main_v7_1 = fun _ => Scf.iv (0#32 : BitVec 32) 1#32 k
  | 0 => by rw [atTrip_zero, h0 c, Scf.iv_zero]
  | k + 1 => by
    rw [atTrip_succ]
    simp only [afterL_cons, afterL_nil]
    have h := counter_at V h0 c k
    generalize atTrip condOps bodyItems V k c = W at h ⊢
    have e : after carryOps (after selOps (after sumOps (after argOps (after distOps (after condOps W))))) main_v7_1
        = addi (W main_v7_1) (constantI S_ 32 1#32) := by
      after_reads_simp
      rfl
    rw [e, h, Scf.iv_succ]
    rfl

-- the spelling of a core's thread is left for unification to unfold
set_option backward.isDefEq.respectTransparency.types false in
/-- The loop's condition, run for the `k`-th time, returns one exactly when `k` is less than ten. -/
theorem cond_spec (V : Dev nD → Valuation τ sig (Elt F)) (h0 : ∀ c, V c main_v7_1 = fun _ => (0#32 : BitVec 32)) :
    CondSpec pcfgs defs₀ loops main_while0_cond condOps bodyItems V 10 := by
  intro k hk c bd
  have hctr := counter_at V h0 c k
  generalize atTrip condOps bodyItems V k c = W at hctr ⊢
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ W main_v7_1 HostLoop.idx0) (HloOp.result _ W main_while0c_c_7 HostLoop.idx0) = 1#1) (k < 10)
    rw [nullary_result_ne _ _ _ _ (by decide), nullary_result, hctr]
    have := Scf.cmpi_slt_iv_ub_iff (lb := (0#32 : BitVec 32)) (ub := 10#32) (st := 1#32) (by decide) (k := k) (by rw [trips_ten]; exact hk)
    rw [trips_ten] at this
    exact this
  isplitl [Hb]; · iexact Hb
  rw [after_cons, after_cons, after_nil]; iexact Hh

/-- The stretch before the loop, as a plain list. -/
theorem pre_plain : Plain ([preOps] : List (List (HloOp τ sig (Elt F)))) := .cons preOps_sub .nil
/-- The stretches of the loop's body, as a plain list. -/
theorem body_plain : Plain (bodyItems : List (List (HloOp τ sig (Elt F)))) :=
  .cons distOps_sub (.cons argOps_sub (.cons sumOps_sub (.cons selOps_sub (.cons carryOps_sub .nil))))
/-- The stretch after the loop, as a plain list. -/
theorem post_plain : Plain ([postOps] : List (List (HloOp τ sig (Elt F)))) := .cons postOps_sub .nil

section Run

variable (m : (ℓ : Loc nD τ sig) → Buf (Elt F) ℓ) (ρ : Dev nD → PrngReg)

/-- Every buffer of a core at the loop's entry. -/
abbrev entry (c : Dev nD) : Valuation τ sig (Elt F) := entryContents [preOps] m c

/-- Every buffer of a core at the reference's end. -/
abbrev final (c : Dev nD) : Valuation τ sig (Elt F) := finalContents condOps [preOps] bodyItems [postOps] 10 m c

/-- The trip counter is zero at the loop's entry. -/
theorem entry_counter (c : Dev nD) : entry m c main_v7_1 = fun _ => (0#32 : BitVec 32) := by
  simp only [entry, entryContents, afterL_cons, afterL_nil]
  after_reads_simp
  rfl

local notation "𝕄" => MT nD τ sig Unit (Elt F) ℕ (Option PUnit) ℕ

/-- What rides beside the buffers: the core owes nothing. -/
abbrev Rest (c : Dev nD) : sProp 𝕄 := iprop(∃ W, owes (c : Thread nD τ) (0 : CellTallies nD τ sig Unit) W)

/-- No pipeline, no admitted table. -/
abbrev noAdm : (p : Fin 0) → (pcfgs (F := F) p).Adm := fun p => p.elim0
/-- No ticket. -/
abbrev noTk : Fin 0 → Pipeline.Ticket (Ix := Unit) (Name := ℕ) (U := Option PUnit) (Lvl := ℕ) (nD := nD) (τ := τ) (pcfgs (F := F)) noAdm := fun j => j.elim0
/-- No index at any semaphore cell. -/
abbrev noIx : GSem nD τ sig → Finset Unit := fun _ => ∅
/-- Every level is zero. -/
abbrev noLv : GSem nD τ sig → Unit → ℕ := fun _ _ => 0

/-- The condition's specification with the core's dues beside it. -/
theorem loop_cond : LoopCond (pcfgs (F := F)) defs₀ Variants.none loops (Rest (F := F)) main_while0_cond condOps bodyItems (entry m) 10 := fun k hk c bd => by
  have hc := cond_spec (entry m) (entry_counter m) k hk c bd
  refine BIBase.Entails.trans ?_ (((sep_mono_left (Q := Rest c) hc).trans (wp_frame_r _ _ _)).trans (wp_mono _ _ _ fun v => ?_))
  · iintro ⟨Hb, Hh, HR⟩
    isplitl [Hb Hh]
    · isplitl [Hb]; · iexact Hb
      iexact Hh
    iexact HR
  · iintro ⟨⟨%hv, Hb, Hh⟩, HR⟩
    isplitr; · ipureintro; exact hv
    isplitl [Hb]; · iexact Hb
    isplitl [Hh]; · iexact Hh
    iexact HR

/-- The loop as one segment. -/
def loopPart : Pipeline.CSeg (pcfgs (F := F)) noAdm defs₀ Variants.none noIx noLv loops noTk :=
  loopSeg _ _ _ _ _ _ _ _ 0 main_while0_cond main_while0_body rfl condOps bodyItems body_plain body_chain 10 (entry m) Rest (loop_cond m)

/-- @main's segments: the stretch before the loop, the loop, the stretch after. -/
def parts : List (Pipeline.CSeg (pcfgs (F := F)) noAdm defs₀ Variants.none noIx noLv loops noTk) :=
  segsOf _ _ _ _ _ _ _ _ Rest [preOps] pre_plain (launchContents m)
    ++ loopPart m :: segsOf _ _ _ _ _ _ _ _ Rest [postOps] post_plain (fun c => after condOps (atTrip condOps bodyItems (entry m) 10 c))

/-- The segments' programs are @main's items. -/
theorem parts_prog : (parts m).map Pipeline.CSeg.prog = [seq preOps, HostLoop.enter 0, seq postOps] := by
  unfold parts
  rw [List.map_append, List.map_cons, segsOf_prog, segsOf_prog]
  rfl

/-- The segments chain from the launch contents to the final contents. -/
theorem parts_chain : Pipeline.CSeg.Chains (fun c => iprop(held (c : Thread nD τ) (Pipeline.ucRefs τ sig) (launchContents m c) ∗ Rest c)) (parts m)
    (fun c => iprop((held (c : Thread nD τ) (Pipeline.ucRefs τ sig) (final m c) : sProp 𝕄) ∗ Rest c)) := by
  unfold parts
  exact Pipeline.CSeg.Chains.append (segsOf_chains _ _ _ _ _ _ _ _ Rest [preOps] pre_plain _)
    ⟨fun _ => .rfl, segsOf_chains _ _ _ _ _ _ _ _ Rest [postOps] post_plain _⟩

/-- The TensorCore has no unscoped semaphore. -/
theorem no_unscoped : ∀ sm : SemLoc sig, sm.isScoped .tc = true := by decide

/-- THE RUN: every execution of the reference ends, every buffer at `final` and every semaphore counter at zero. -/
theorem run : θ_run defs (onTc (τ := τ) (main (F := F))) ⟨m, fun _ => 0, ρ⟩
    (fun r => (∀ (c : Dev nD) (b : Ref sig .tc), (Proc.devRef .tc b : DevRef τ sig).isScoped = false →
        r.2.mem ((c.tc : Thread nD τ).loc b) = final m c (Proc.devRef .tc b))
      ∧ r.2.sem = fun _ => 0) :=
  Pipeline.θ_run_regions_loop_kit_sems (Ix := Unit) (Name := ℕ) (U := Option PUnit) (Lvl := ℕ) (J := Fin 0) (P := Fin 0) (Val := Elt F)
    pcfgs noAdm (fun k => k.1.elim0) defs₀ Variants.none noIx noLv loops noTk m ρ main (parts m)
    (fun c Q => by
      show wp _ _ _ (Pipeline.chain ((parts m).map Pipeline.CSeg.prog)) Q ⊢ _
      rw [parts_prog, main_chain c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (Pipeline.ucRefs τ sig) (launchContents m c) ∗ Rest c))
    (Tₙ := fun c => iprop(held (c : Thread nD τ) (Pipeline.ucRefs τ sig) (final m c)))
    (hch := parts_chain m)
    (hinit := by
      refine Pipeline.initEach noIx noLv fun c => ?_
      rw [show unscopedBufs c (fun b => m ((c : Thread nD τ).loc b)) = held (c : Thread nD τ) (Pipeline.ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = final m c b)
    (hfin := fun c s' => by
      unfold held
      iintro ⟨Hh, HSI⟩
      imodintro
      iapply (pointsTo_read_all (Pipeline.ucRefs τ sig) (fun b => ((c : Dev nD), b)) (final m c) s')
      isplitl [Hh] <;> iassumption)
    (hQ := fun _ h hz => ⟨fun c b hb => h c _ (devRef_mem_ucRefs b hb), funext fun g => hz g (.inr (no_unscoped g.2))⟩)

end Run

end Cert.Proof.Ref

end
-- ==== Proof.RefValue.lean ====
/- What the reference's buffers hold at the end: the arguments as launched, and its result as ten steps of one function. -/
module

public import proofs.«01_k».proof.Proof.RefRun

@[expose] public section

set_option maxRecDepth 16384

noncomputable section

namespace Cert.Proof.Ref

open Idealize.ShloMosaic Idealize.SL.Sem Cert.ReferenceIdeal Cert.ReferenceIdeal.Gen
open Idealize.ShloMosaic.StableHlo
open TcCoe

variable {F : FTy → Type} [FloatOps F]

/-- The rows the reference clusters. -/
def rows (q : FVec F S1x2048x1024 .f32) (w : FVec F S1x1024x1024 .f32) : FVec F S2048x1024 .f32 :=
  shapeCast S2048x1024 (broadcastInDim S1x2048x1024 ![1, 2] bcast_S2048x1024_S1x2048x1024_1_2
    (Host.dotGeneral dot_S2048x1024_S1024x1024_S2048x1024_1_0_0_1_n_n none
      (shapeCast S2048x1024 q shapeCasts_S1x2048x1024_S2048x1024) (shapeCast S1024x1024 w shapeCasts_S1x1024x1024_S1024x1024)))
    shapeCasts_S1x2048x1024_S2048x1024

section Steps

variable (X : FVec F S2048x1024 .f32)

/-- The centroids at the start: the first rows. -/
def start : FVec F S45x1024 .f32 := extractStridedSlice S45x1024 ![0, 0] X slices_S2048x1024_S45x1024_0_0

/-- The distances of the rows to the centroids. -/
def dist (C : FVec F S45x1024 .f32) : FVec F S2048x45 .f32 :=
  addf (subf (broadcastInDim S2048x45 ![0, 1] bcast_S2048x1_S2048x45_0_1 (broadcastInDim S2048x1 ![0] bcast_S2048_S2048x1_0
        (Host.reduceAdd (mulf X X) (constant S_ .f32 0x00000000#32) reducesTo_S2048x1024_S2048_d1 h_S_)))
      (mulf (broadcastInDim S2048x45 ![] bcast_S_S2048x45 (constant S_ .f32 0x40000000#32))
        (Host.dotGeneral dot_S2048x1024_S1024x45_S2048x45_1_0_0_1_n_n none X (transpose S1024x45 [1, 0] C transposes_S45x1024_S1024x45_1_0))))
    (broadcastInDim S2048x45 ![0, 1] bcast_S1x45_S2048x45_0_1 (broadcastInDim S1x45 ![1] bcast_S45_S1x45_1
      (Host.reduceAdd (mulf C C) (constant S_ .f32 0x00000000#32) reducesTo_S45x1024_S45_d1 h_S_)))

/-- The nearest centroid of each row. -/
def pick (D : FVec F S2048x45 .f32) : IVec S2048 32 := fun j =>
  (Host.argReduce reducer_argmin_f32_i32 D (iotaInDim S2048x45 32 1) (constant S_ .f32 0x7F800000#32) (constantI S_ 32 0#32)
    reducesTo_S2048x45_S2048_d1 h_S_ j).2

/-- The sums of the rows of each cluster. -/
def sums (a : IVec S2048 32) : FVec F S45x1024 .f32 :=
  Host.scatterAdd scatter_S45x1024_S2048x1_S2048x1024_1_0_0_1 (broadcastInDim S45x1024 ![] bcast_S_S45x1024 (constant S_ .f32 0x00000000#32))
    (broadcastInDim S2048x1 ![0] bcast_S2048_S2048x1_0 a) X

/-- How many rows each cluster has. -/
def counts (a : IVec S2048 32) : FVec F S45 .f32 :=
  Host.scatterAdd scatter_S45_S2048x1_S2048_n_0_0_1 (broadcastInDim S45 ![] bcast_S_S45 (constant S_ .f32 0x00000000#32))
    (broadcastInDim S2048x1 ![0] bcast_S2048_S2048x1_0 a) (broadcastInDim S2048 ![] bcast_S_S2048 (constant S_ .f32 0x3F800000#32))

/-- The new centroids: the means of the clusters that have rows. -/
def renew (C : FVec F S45x1024 .f32) (a : IVec S2048 32) : FVec F S45x1024 .f32 :=
  select (broadcastInDim S45x1024 ![0, 1] bcast_S45x1_S45x1024_0_1 (broadcastInDim S45x1 ![0] bcast_S45_S45x1_0
      (cmpf .ogt (counts (F := F) a) (broadcastInDim S45 ![] bcast_S_S45 (constant S_ .f32 0x00000000#32)))))
    (Host.divf (sums X a) (broadcastInDim S45x1024 ![0, 1] bcast_S45x1_S45x1024_0_1 (broadcastInDim S45x1 ![0] bcast_S45_S45x1_0
      (maximumf (counts a) (broadcastInDim S45 ![] bcast_S_S45 (constant S_ .f32 0x3F800000#32))))))
    C

/-- The nearest centroids at `C`. -/
def choose (C : FVec F S45x1024 .f32) : IVec S2048 32 := pick (dist X C)

/-- One step from the centroids `C`. -/
def step (C : FVec F S45x1024 .f32) : FVec F S45x1024 .f32 := renew X C (choose X C)

/-- The centroids after `k` steps. -/
def cents (k : ℕ) : FVec F S45x1024 .f32 := (step X)^[k] (start X)

/-- One more step. -/
theorem cents_succ (k : ℕ) : cents X (k + 1) = step X (cents X k) := Function.iterate_succ_apply' ..

end Steps

/-- The result from the assignments. -/
def same (a : IVec S2048 32) : FVec F S1x12x2048x2048 .f32 :=
  subf (mulf (broadcastInDim S1x12x2048x2048 ![] bcast_S_S1x12x2048x2048 (constant S_ .f32 0x461C4000#32))
      (uitofp .f32 (cmpi .eq
        (broadcastInDim S1x12x2048x2048 ![0, 1, 2, 3] bcast_S1x12x2048x1_S1x12x2048x2048_0_1_2_3
          (broadcastInDim S1x12x2048x1 ![0, 1, 2] bcast_S1x12x2048_S1x12x2048x1_0_1_2
            (broadcastInDim S1x12x2048 ![0, 1, 2] bcast_S1x1x2048_S1x12x2048_0_1_2
              (broadcastInDim S1x1x2048 ![0, 2] bcast_S1x2048_S1x1x2048_0_2 (shapeCast S1x2048 a shapeCasts_S2048_S1x2048)))))
        (broadcastInDim S1x12x2048x2048 ![0, 1, 2, 3] bcast_S1x12x1x2048_S1x12x2048x2048_0_1_2_3
          (broadcastInDim S1x12x1x2048 ![0, 1, 3] bcast_S1x12x2048_S1x12x1x2048_0_1_3
            (broadcastInDim S1x12x2048 ![0, 1, 2] bcast_S1x1x2048_S1x12x2048_0_1_2
              (broadcastInDim S1x1x2048 ![0, 2] bcast_S1x2048_S1x1x2048_0_2 (shapeCast S1x2048 a shapeCasts_S2048_S1x2048))))))))
    (broadcastInDim S1x12x2048x2048 ![] bcast_S_S1x12x2048x2048 (constant S_ .f32 0x461C4000#32))

section Frame

variable (W : Valuation τ sig (Elt F))

/-- The loop's stretches write neither argument. -/
theorem trip_arg0 : afterL bodyItems (after condOps W) main_arg0 = W main_arg0 := by
  simp only [afterL_cons, afterL_nil]
  after_reads_simp
/-- The loop's stretches write neither argument. -/
theorem trip_arg1 : afterL bodyItems (after condOps W) main_arg1 = W main_arg1 := by
  simp only [afterL_cons, afterL_nil]
  after_reads_simp

variable (V : Dev nD → Valuation τ sig (Elt F))

/-- The first argument through `k` trips. -/
theorem trips_arg0 (c : Dev nD) : ∀ k, atTrip condOps bodyItems V k c main_arg0 = V c main_arg0
  | 0 => rfl
  | k + 1 => (trip_arg0 _).trans (trips_arg0 c k)
/-- The second argument through `k` trips. -/
theorem trips_arg1 (c : Dev nD) : ∀ k, atTrip condOps bodyItems V k c main_arg1 = V c main_arg1
  | 0 => rfl
  | k + 1 => (trip_arg1 _).trans (trips_arg1 c k)

/-- A trip does not write the rows. -/
theorem trip_rows : afterL bodyItems (after condOps W) main_v7_0 = W main_v7_0 := by
  simp only [afterL_cons, afterL_nil]
  after_reads_simp
/-- A trip's assignments. -/
theorem trip_pick : afterL bodyItems (after condOps W) main_v7_3 = choose (F := F) (W main_v7_0) (W main_v7_4) := by
  simp only [afterL_cons, afterL_nil]
  after_reads_simp
  rfl
/-- A trip's centroids. -/
theorem trip_cents : afterL bodyItems (after condOps W) main_v7_4 = step (F := F) (W main_v7_0) (W main_v7_4) := by
  simp only [afterL_cons, afterL_nil]
  after_reads_simp
  rfl

/-- The rows and the centroids through `k` trips. -/
theorem trips (c : Dev nD) {X : FVec F S2048x1024 .f32} (hX : V c main_v7_0 = X) (hC : V c main_v7_4 = start X) :
    ∀ k, atTrip condOps bodyItems V k c main_v7_0 = X ∧ atTrip condOps bodyItems V k c main_v7_4 = cents X k
  | 0 => ⟨hX, hC⟩
  | k + 1 => by
    obtain ⟨h0, h4⟩ := trips c hX hC k
    refine ⟨(trip_rows _).trans h0, (trip_cents _).trans ?_⟩
    rw [h0, h4, cents_succ]

/-- The last trip's assignments. -/
theorem trips_pick (c : Dev nD) {X : FVec F S2048x1024 .f32} (hX : V c main_v7_0 = X) (hC : V c main_v7_4 = start X) (k : ℕ) :
    atTrip condOps bodyItems V (k + 1) c main_v7_3 = choose X (cents X k) := by
  obtain ⟨h0, h4⟩ := trips V c hX hC k
  refine (trip_pick _).trans ?_
  rw [h0, h4]

end Frame

variable (m : (ℓ : Loc nD τ sig) → Buf (Elt F) ℓ) (ρ : Dev nD → PrngReg)

/-- The first argument's buffer ends as launched. -/
theorem final_arg0 (c : Dev nD) : final m c main_arg0 = m ((c.tc : Thread nD τ).loc main_arg0) := by
  have h := trips_arg0 (entry m) c 10
  simp only [final, finalContents, afterL_cons, afterL_nil]
  generalize atTrip condOps bodyItems (entryContents [preOps] m) 10 c = W at h ⊢
  after_reads_simp
  rw [h]
  simp only [entry, entryContents, afterL_cons, afterL_nil]
  after_reads_simp
/-- The second argument's buffer ends as launched. -/
theorem final_arg1 (c : Dev nD) : final m c main_arg1 = m ((c.tc : Thread nD τ).loc main_arg1) := by
  have h := trips_arg1 (entry m) c 10
  simp only [final, finalContents, afterL_cons, afterL_nil]
  generalize atTrip condOps bodyItems (entryContents [preOps] m) 10 c = W at h ⊢
  after_reads_simp
  rw [h]
  simp only [entry, entryContents, afterL_cons, afterL_nil]
  after_reads_simp

/-- The result buffer's final contents. -/
theorem final_out (c : Dev nD) {X : FVec F S2048x1024 .f32}
    (hX : rows (m ((c.tc : Thread nD τ).loc main_arg0)) (m ((c.tc : Thread nD τ).loc main_arg1)) = X) :
    final m c main_v20 = same (choose X (cents X 9)) := by
  have h0 : entry m c main_v7_0 = X := by
    simp only [entry, entryContents, afterL_cons, afterL_nil]
    after_reads_simp
    exact hX
  have h4 : entry m c main_v7_4 = start X := by
    rw [← hX]
    simp only [entry, entryContents, afterL_cons, afterL_nil]
    after_reads_simp
    rfl
  have h := trips_pick (entry m) c h0 h4 9
  change atTrip condOps bodyItems (entryContents [preOps] m) 10 c main_v7_3 = _ at h
  rw [← h]
  simp only [final, finalContents, afterL_cons, afterL_nil]
  generalize atTrip condOps bodyItems (entryContents [preOps] m) 10 c = W at h ⊢
  after_reads_simp
  rfl

/-- The reference's frame: it ends, its arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c main_arg0 rfl).trans (final_arg0 m c), (h.1 c main_arg1 rfl).trans (final_arg1 m c)⟩, h.2⟩) (run m ρ)

end Cert.Proof.Ref

end
-- ==== Proof.Pick.lean ====
/- Where a row of distances is least: the first such column, said once, for the kernel's two reductions and for the reference's one. -/
module

public import proofs.«01_k».proof.Proof.KerSteps
public import proofs.«01_k».proof.Proof.RefValue
public import Idealize.ShloMosaic.Lib.Pointwise
public import Idealize.ShloMosaic.Lib.SortNet.Extract

@[expose] public section

set_option maxRecDepth 16384

noncomputable section

namespace Cert.Proof

open Idealize.ShloMosaic Idealize.ShloMosaic.Tactic

/-- The word `w` names the first column at which `d` is least. -/
def First {n : ℕ} (d : Fin n → EReal) (w : BitVec 32) : Prop :=
  ∃ k : Fin n, w = BitVec.ofNat 32 k ∧ (∀ k', d k ≤ d k') ∧ ∀ k', k' < k → d k < d k'

/-- There is one such word. -/
theorem First.unique {n : ℕ} {d : Fin n → EReal} {w w' : BitVec 32} (h : First d w) (h' : First d w') : w = w' := by
  obtain ⟨k, rfl, hl, hf⟩ := h
  obtain ⟨k', rfl, hl', hf'⟩ := h'
  have : k = k' := by
    rcases lt_trichotomy k k' with h | h | h
    · exact absurd (hf' _ h) (not_lt.mpr (hl _))
    · exact h
    · exact absurd (hf _ h) (not_lt.mpr (hl' _))
  rw [this]

/-- Columns at the top of the order, after the others, change nothing. -/
theorem First.padded {d : Fin 48 → EReal} {e : Fin 45 → EReal} {w : BitVec 32} (h : First d w)
    (he : ∀ k : Fin 45, d ⟨k, by omega⟩ = e k) (ht : ∀ k : Fin 48, 45 ≤ (k : ℕ) → d k = ⊤) : First e w := by
  obtain ⟨k, rfl, hl, hf⟩ := h
  have hk : (k : ℕ) < 45 := by
    by_contra hk
    have h0 := hf ⟨0, by omega⟩ (Fin.lt_def.mpr (by show 0 < (k : ℕ); omega))
    rw [ht k (by omega)] at h0
    exact absurd h0 not_top_lt
  refine ⟨⟨k, hk⟩, rfl, fun k' => ?_, fun k' hk' => ?_⟩
  · rw [← he, ← he]; exact hl _
  · rw [← he, ← he]; exact hf _ (Fin.lt_def.mpr (Fin.lt_def.mp hk'))

/-- A small number's word, read signed. -/
theorem toInt_small (k : ℕ) (hk : k < 2 ^ 31) : (BitVec.ofNat 32 k).toInt = k := by
  rw [BitVec.toInt_eq_toNat_of_lt] <;> simp only [BitVec.toNat_ofNat] <;> omega

/-- The signed minimum of two words is one of them, and at most each. -/
theorem minsi_spec (a b : BitVec 32) : (IntOp.minsi a b = a ∨ IntOp.minsi a b = b) ∧ (IntOp.minsi a b).toInt ≤ a.toInt
    ∧ (IntOp.minsi a b).toInt ≤ b.toInt := by
  unfold IntOp.minsi
  split
  · rename_i h
    simp only [BitVec.sle, BitVec.slt, decide_eq_true_eq] at h
    exact ⟨.inl rfl, le_rfl, by omega⟩
  · rename_i h
    simp only [BitVec.sle, BitVec.slt, decide_eq_true_eq] at h
    exact ⟨.inr rfl, by omega, le_rfl⟩

/-- The signed minimum of a set of words is its start or one of them, and at most each. -/
theorem fold_minsi_spec {ι : Type} (S : Finset ι) (b : BitVec 32) (f : ι → BitVec 32) :
    (S.fold IntOp.minsi b f = b ∨ ∃ k ∈ S, S.fold IntOp.minsi b f = f k) ∧ ∀ k ∈ S, (S.fold IntOp.minsi b f).toInt ≤ (f k).toInt := by
  classical
  induction S using Finset.induction_on with
  | empty => exact ⟨.inl rfl, by simp⟩
  | insert a S ha ih =>
    rw [Finset.fold_insert ha]
    obtain ⟨h1, h2, h3⟩ := minsi_spec (f a) (S.fold IntOp.minsi b f)
    refine ⟨?_, ?_⟩
    · rcases h1 with h | h
      · exact .inr ⟨a, by simp, h⟩
      · rw [h]
        rcases ih.1 with e | ⟨k, hk, e⟩
        · exact .inl e
        · exact .inr ⟨k, by simp [hk], e⟩
    · intro k hk
      rcases Finset.mem_insert.mp hk with rfl | hk
      · exact h2
      · exact h3.trans (ih.2 k hk)

/-- The kernel's choice: the least column at which the row meets its minimum. -/
theorem first_fold (d : Fin 48 → EReal) (w : BitVec 32)
    (hw : w = Finset.fold IntOp.minsi (2147483647#32)
      (fun x => if d x = Finset.fold min ⊤ d Finset.univ then BitVec.ofNat 32 (x : ℕ) else 48#32) Finset.univ) : First d w := by
  have hM : Finset.fold min ⊤ d Finset.univ = Finset.univ.inf d := rfl
  rw [hM] at hw
  set M := Finset.univ.inf d with hMd
  obtain ⟨km, -, hkm⟩ := Finset.exists_mem_eq_inf (Finset.univ : Finset (Fin 48)) ⟨0, by simp⟩ d
  have hle : ∀ k, M ≤ d k := fun k => Finset.inf_le (by simp)
  obtain ⟨k, hk, hmin⟩ : ∃ k : Fin 48, d k = M ∧ ∀ k', k' < k → d k' ≠ M := by
    classical
    have hne : (Finset.univ.filter fun k => d k = M).Nonempty := ⟨km, by simp [hMd, ← hkm]⟩
    refine ⟨_, (Finset.mem_filter.mp (Finset.min'_mem _ hne)).2, fun k' hk' e => ?_⟩
    exact absurd (Finset.min'_le _ k' (by simp [e])) (not_le.mpr hk')
  obtain ⟨h1, h2⟩ := fold_minsi_spec (Finset.univ : Finset (Fin 48)) (2147483647#32)
    (fun x => if d x = M then BitVec.ofNat 32 (x : ℕ) else 48#32)
  rw [← hw] at h1 h2
  have hw2 := h2 k (by simp)
  simp only [hk, if_true] at hw2
  rw [toInt_small _ (by omega)] at hw2
  have hwk : w = BitVec.ofNat 32 k := by
    rcases h1 with e | ⟨x, -, e⟩
    · rw [e] at hw2
      have : (2147483647#32 : BitVec 32).toInt = 2147483647 := by decide
      omega
    · by_cases hx : d x = M
      · simp only [hx, if_true] at e
        rw [e, toInt_small _ (by omega)] at hw2
        rcases lt_or_eq_of_le (show x ≤ k from Fin.le_def.mpr (by omega)) with h | h
        · exact absurd hx (hmin x h)
        · rw [e, h]
      · simp only [hx, if_false] at e
        rw [e] at hw2
        have : (48#32 : BitVec 32).toInt = 48 := by decide
        omega
  exact ⟨k, hwk, fun k' => hk ▸ hle k', fun k' hk' => hk ▸ lt_of_le_of_ne (hle k') (Ne.symm (hmin k' hk'))⟩

/-- The order the reference's reduction goes by: the value, then the index. -/
def Before (p q : Ideal .f32 × BitVec 32) : Prop := (p.1 : EReal) < q.1 ∨ (p.1 : EReal) = q.1 ∧ p.2.toInt ≤ q.2.toInt

/-- That order is transitive. -/
theorem Before.trans {p q r : Ideal .f32 × BitVec 32} (h : Before p q) (h' : Before q r) : Before p r := by
  rcases h with h | ⟨h, i⟩ <;> rcases h' with h' | ⟨h', i'⟩
  · exact .inl (h.trans h')
  · exact .inl (h' ▸ h)
  · exact .inl (h ▸ h')
  · exact .inr ⟨h.trans h', i.trans i'⟩

/-- One step of the reduction leaves one of its two pairs, before both. -/
theorem reducer_spec (a b : Ideal .f32 × BitVec 32) :
    (ReferenceIdeal.reducer_argmin_f32_i32 a b = a ∨ ReferenceIdeal.reducer_argmin_f32_i32 a b = b)
    ∧ Before (ReferenceIdeal.reducer_argmin_f32_i32 a b) a ∧ Before (ReferenceIdeal.reducer_argmin_f32_i32 a b) b := by
  obtain ⟨x, u⟩ := a
  obtain ⟨y, v⟩ := b
  have key : ReferenceIdeal.reducer_argmin_f32_i32 (x, u) (y, v)
      = if (x : EReal) < y ∨ (x : EReal) = y ∧ u.toInt < v.toInt then (x, u) else (y, v) := by
    unfold ReferenceIdeal.reducer_argmin_f32_i32
    simp only [Ideal.cmpf_def, Ideal.cmp, IntOp.cmpi, Scalar.select, IntOp.ori, IntOp.andi]
    rcases lt_trichotomy (x : EReal) y with h | h | h
    · simp [h, h.ne]
    · subst h
      by_cases hs : u.toInt < v.toInt <;> simp [hs, BitVec.slt]
    · simp [h.not_gt, h.ne', h.ne]
  rw [key]
  split
  · rename_i h
    refine ⟨.inl rfl, .inr ⟨rfl, le_rfl⟩, ?_⟩
    rcases h with h | ⟨h, i⟩
    · exact .inl h
    · exact .inr ⟨h, i.le⟩
  · rename_i h
    rw [not_or, not_and_or, not_lt, not_lt] at h
    refine ⟨.inr rfl, ?_, .inr ⟨rfl, le_rfl⟩⟩
    rcases lt_or_eq_of_le h.1 with h1 | h1
    · exact .inl h1
    · exact .inr ⟨h1, h.2.resolve_left (fun e => e h1.symm)⟩

/-- The reduction over a list leaves its start or a pair of the list, before every one. -/
theorem foldl_spec (L : List (Ideal .f32 × BitVec 32)) : ∀ p : Ideal .f32 × BitVec 32,
    (L.foldl ReferenceIdeal.reducer_argmin_f32_i32 p = p ∨ L.foldl ReferenceIdeal.reducer_argmin_f32_i32 p ∈ L)
    ∧ Before (L.foldl ReferenceIdeal.reducer_argmin_f32_i32 p) p
    ∧ ∀ q ∈ L, Before (L.foldl ReferenceIdeal.reducer_argmin_f32_i32 p) q := by
  induction L with
  | nil => exact fun p => ⟨.inl rfl, .inr ⟨rfl, le_rfl⟩, by simp⟩
  | cons a L ih =>
    intro p
    rw [List.foldl_cons]
    obtain ⟨h1, h2, h3⟩ := ih (ReferenceIdeal.reducer_argmin_f32_i32 p a)
    obtain ⟨g1, g2, g3⟩ := reducer_spec p a
    refine ⟨?_, h2.trans g2, ?_⟩
    · rcases h1 with h | h
      · rw [h]
        rcases g1 with g | g
        · exact .inl g
        · rw [g]; exact .inr (by simp)
      · exact .inr (by simp [h])
    · intro q hq
      rcases List.mem_cons.mp hq with rfl | hq
      · exact h2.trans g3
      · exact h3 q hq

/-- The reference's choice, over the pairs of a row. -/
theorem first_foldl (d : Fin 45 → EReal) (L : List (Ideal .f32 × BitVec 32)) (hL : ∀ p, p ∈ L ↔ ∃ k : Fin 45, p = (d k, BitVec.ofNat 32 k)) :
    First d (L.foldl ReferenceIdeal.reducer_argmin_f32_i32 ((⊤ : EReal), 0#32)).2 := by
  obtain ⟨h1, -, h3⟩ := foldl_spec L ((⊤ : EReal), 0#32)
  generalize L.foldl ReferenceIdeal.reducer_argmin_f32_i32 ((⊤ : EReal), 0#32) = p at h1 h3 ⊢
  have h4 : ∀ k, Before p (d k, BitVec.ofNat 32 k) := fun k => h3 _ ((hL _).mpr ⟨k, rfl⟩)
  rcases h1 with rfl | h
  · have ht : ∀ k, d k = ⊤ := fun k => by
      rcases h4 k with h | ⟨h, -⟩
      · exact absurd h not_top_lt
      · exact h.symm
    refine ⟨0, rfl, fun k' => by rw [ht, ht], fun k' hk' => absurd hk' (Fin.not_lt_zero _)⟩
  · obtain ⟨k, rfl⟩ := (hL _).mp h
    refine ⟨k, rfl, fun k' => ?_, fun k' hk' => ?_⟩
    · rcases h4 k' with h | ⟨h, -⟩
      · exact le_of_lt h
      · exact le_of_eq h
    · rcases h4 k' with h | ⟨-, h⟩
      · exact h
      · simp only at h
        rw [toInt_small _ (by omega), toInt_small _ (by omega)] at h
        have := Fin.lt_def.mp hk'
        omega

/-- The kernel's choice at a row. -/
theorem ker_pick (D : FVec Ideal KernelIdeal.S2048x48 .f32) (i : Fin 2048) : First (fun k => D (ix2 i k)) (Ker.pick D (ix1 i)) := by
  refine first_fold _ _ ?_
  unfold Ker.pick Ker.cols
  pointwise
  rw [show Ideal.ofBits FTy.f32 2139095040#32 = ⊤ from rfl]

/-- The reference's choice at a row. -/
theorem ref_pick (D : FVec Ideal ReferenceIdeal.S2048x45 .f32) (i : Fin 2048) : First (fun k => D (ix2 i k)) (Ref.pick D (ix1 i)) := by
  unfold Ref.pick
  rw [Ideal.argReduce_eq_reduce2, Host.reduce2_eq_foldl_fiber]
  refine first_foldl (fun k => D (ix2 i k)) _ fun p => ?_
  simp only [Host.argReduceFiber, List.mem_map, List.mem_filter, List.mem_finRange, true_and, decide_eq_true_eq]
  have hd : ∀ x : ReferenceIdeal.S2048x45.Idx, ReferenceIdeal.Gen.reducesTo_S2048x45_S2048_d1.drop x = ix1 i ↔ x 0 = i := fun x => by
    refine ⟨fun e => congrFun e 0, fun e => ?_⟩
    funext a
    match a with
    | ⟨0, _⟩ => exact e
  constructor
  · rintro ⟨n, hn, rfl⟩
    generalize ReferenceIdeal.S2048x45.rowMajor.symm n = x at hn ⊢
    refine ⟨x 1, ?_⟩
    rw [← (hd x).mp hn]
    refine Prod.ext (congrArg D (ix2_eta x).symm) ?_
    rfl
  · rintro ⟨k, rfl⟩
    refine ⟨ReferenceIdeal.S2048x45.rowMajor (ix2 i k), ?_, ?_⟩
    · rw [Equiv.symm_apply_apply, hd]; rfl
    · rw [Equiv.symm_apply_apply]; rfl

end Cert.Proof

end
-- ==== Proof.Sums.lean ====
/- The cluster sums and counts: the kernel's one-hot contractions and the reference's scatters are the same sums over rows. -/
module

public import proofs.«01_k».proof.Proof.Pick

@[expose] public section

set_option maxRecDepth 16384

noncomputable section

namespace Cert.Proof

open Idealize.ShloMosaic Idealize.ShloMosaic.Tactic

/-- Where an update lands: start plus window coordinate, on every axis. -/
theorem lands_iff {s si u : Shape} (d : ScatterDims s si u) {w : ℕ} (j : u.Idx) (idx : IVec si w) (i : s.Idx) :
    d.resultIdx? j idx = some i ↔ ∀ a, d.start j idx a + d.window j a = ((i a : ℕ) : ℤ) := by
  unfold ScatterDims.resultIdx?
  split
  · rename_i h
    rw [Option.some.injEq]
    refine ⟨fun e a => ?_, fun e => ?_⟩
    · rw [← e]; exact (Int.toNat_of_nonneg (h a).1).symm
    · funext a
      apply Fin.ext
      show (d.start j idx a + d.window j a).toNat = (i a : ℕ)
      rw [e a, Int.toNat_natCast]
  · rename_i h
    refine ⟨fun e => absurd e (by simp), fun e => absurd (fun a => ?_) h⟩
    rw [e a]
    exact ⟨Int.natCast_nonneg _, by exact_mod_cast (i a).isLt⟩

/-- A sum from a start that is zero. -/
theorem zero_add_of_eq {z : EReal} (h : z = 0) (s : EReal) : z + s = s := by rw [h, zero_add]

/-- A count's update lands at the cluster that its row is assigned to. -/
theorem count_lands (a : IVec ReferenceIdeal.S2048 32) (x : Fin 2048) (k : Fin 45) :
    ReferenceIdeal.scatter_S45_S2048x1_S2048_n_0_0_1.resultIdx? (ix1 x)
      (broadcastInDim ReferenceIdeal.S2048x1 ![0] ReferenceIdeal.Gen.bcast_S2048_S2048x1_0 a) = some (ix1 k) ↔ (a (ix1 x)).toInt = (k : ℕ) := by
  rw [lands_iff]
  have hs : ReferenceIdeal.scatter_S45_S2048x1_S2048_n_0_0_1.start (ix1 x)
      (broadcastInDim ReferenceIdeal.S2048x1 ![0] ReferenceIdeal.Gen.bcast_S2048_S2048x1_0 a) 0 = (a (ix1 x)).toInt := by
    unfold ScatterDims.start
    rw [dif_pos (by decide)]
    refine congrArg BitVec.toInt (congrArg a (funext fun b => ?_))
    match b with
    | ⟨0, _⟩ => rfl
  have hw : ReferenceIdeal.scatter_S45_S2048x1_S2048_n_0_0_1.window (ix1 x) 0 = 0 := by
    rfl
  refine ⟨fun h => ?_, fun h b => ?_⟩
  · have := h 0
    rw [hs, hw] at this
    simpa using this
  · match b with
    | ⟨0, _⟩ =>
      show ReferenceIdeal.scatter_S45_S2048x1_S2048_n_0_0_1.start (ix1 x) _ 0 + (ReferenceIdeal.scatter_S45_S2048x1_S2048_n_0_0_1.window (ix1 x) 0 : ℕ) = _
      rw [hs, hw]
      simpa using h

/-- A sum's update lands at its own column of the cluster that its row is assigned to. -/
theorem sum_lands (a : IVec ReferenceIdeal.S2048 32) (x : Fin 2048) (y : Fin 1024) (k : Fin 45) (j : Fin 1024) :
    ReferenceIdeal.scatter_S45x1024_S2048x1_S2048x1024_1_0_0_1.resultIdx? (ix2 x y)
      (broadcastInDim ReferenceIdeal.S2048x1 ![0] ReferenceIdeal.Gen.bcast_S2048_S2048x1_0 a) = some (ix2 k j)
      ↔ (a (ix1 x)).toInt = (k : ℕ) ∧ y = j := by
  rw [lands_iff]
  have hs : ReferenceIdeal.scatter_S45x1024_S2048x1_S2048x1024_1_0_0_1.start (ix2 x y)
      (broadcastInDim ReferenceIdeal.S2048x1 ![0] ReferenceIdeal.Gen.bcast_S2048_S2048x1_0 a) 0 = (a (ix1 x)).toInt := by
    unfold ScatterDims.start
    rw [dif_pos (by decide)]
    refine congrArg BitVec.toInt (congrArg a (funext fun b => ?_))
    match b with
    | ⟨0, _⟩ => rfl
  have hs' : ReferenceIdeal.scatter_S45x1024_S2048x1_S2048x1024_1_0_0_1.start (ix2 x y)
      (broadcastInDim ReferenceIdeal.S2048x1 ![0] ReferenceIdeal.Gen.bcast_S2048_S2048x1_0 a) 1 = 0 := by
    rfl
  have hw : ReferenceIdeal.scatter_S45x1024_S2048x1_S2048x1024_1_0_0_1.window (ix2 x y) 0 = 0 := by
    rfl
  have hw' : ReferenceIdeal.scatter_S45x1024_S2048x1_S2048x1024_1_0_0_1.window (ix2 x y) 1 = y := by
    rfl
  refine ⟨fun h => ?_, fun h b => ?_⟩
  · have h0 := h 0
    have h1 := h 1
    rw [hs, hw] at h0
    rw [hs', hw'] at h1
    refine ⟨by simpa using h0, Fin.ext ?_⟩
    have : ((y : ℕ) : ℤ) = ((j : ℕ) : ℤ) := by simpa using h1
    exact_mod_cast this
  · match b with
    | ⟨0, _⟩ =>
      show ReferenceIdeal.scatter_S45x1024_S2048x1_S2048x1024_1_0_0_1.start (ix2 x y) _ 0 + (ReferenceIdeal.scatter_S45x1024_S2048x1_S2048x1024_1_0_0_1.window (ix2 x y) 0 : ℕ) = _
      rw [hs, hw]
      simpa using h.1
    | ⟨1, _⟩ =>
      show ReferenceIdeal.scatter_S45x1024_S2048x1_S2048x1024_1_0_0_1.start (ix2 x y) _ 1 + (ReferenceIdeal.scatter_S45x1024_S2048x1_S2048x1024_1_0_0_1.window (ix2 x y) 1 : ℕ) = _
      rw [hs', hw', h.2]
      simp

/-- The reference's counts, as sums over the rows. -/
theorem ref_counts (a : IVec ReferenceIdeal.S2048 32) (k : Fin 45) :
    Ref.counts (F := Ideal) a (ix1 k) = ∑ x : Fin 2048, if (a (ix1 x)).toInt = (k : ℕ) then (1 : EReal) else 0 := by
  show Ideal.hostScatterAdd _ _ _ _ _ = _
  unfold Ideal.hostScatterAdd
  rw [Finset.sum_filter, sum_idx1]
  refine (zero_add_of_eq ?_ _).trans (Finset.sum_congr rfl fun x _ => if_congr (count_lands a x k) ?_ rfl)
  · pointwise
  · pointwise

/-- The reference's sums, as sums over the rows. -/
theorem ref_sums (X : FVec Ideal ReferenceIdeal.S2048x1024 .f32) (a : IVec ReferenceIdeal.S2048 32) (k : Fin 45) (j : Fin 1024) :
    Ref.sums X a (ix2 k j) = ∑ x : Fin 2048, if (a (ix1 x)).toInt = (k : ℕ) then X (ix2 x j) else 0 := by
  show Ideal.hostScatterAdd _ _ _ _ _ = _
  unfold Ideal.hostScatterAdd
  rw [Finset.sum_filter, sum_idx2]
  refine (zero_add_of_eq ?_ _).trans (Finset.sum_congr rfl fun x _ => ?_)
  · pointwise
  · refine (Finset.sum_congr rfl fun y _ => if_congr (sum_lands a x y k j) rfl rfl).trans ?_
    by_cases h : (a (ix1 x)).toInt = (k : ℕ)
    · simp only [h, true_and, if_true]
      rw [Finset.sum_ite_eq' Finset.univ j, if_pos (Finset.mem_univ _)]
    · simp only [h, false_and, if_false, Finset.sum_const_zero]

/-- The kernel's indicator as a number. -/
theorem ker_hot (u v : BitVec 32) : (FloatOps.sitofp FTy.f32 (BitVec.setWidth 32 (IntOp.cmpi CmpIPredicate.eq u v)) : Ideal .f32)
    = if u = v then (1 : EReal) else 0 := by
  have key : ∀ w : BitVec 32, (FloatOps.sitofp FTy.f32 w : Ideal .f32) = ((w.toInt : ℝ) : EReal) := fun _ => rfl
  unfold IntOp.cmpi
  rw [key]
  by_cases h : u = v
  · rw [if_pos h, show (u == v) = true from by simp [h],
      show (BitVec.setWidth 32 (BitVec.ofBool true)).toInt = 1 from by decide]
    norm_num
  · rw [if_neg h, show (u == v) = false from by simp [h]]
    norm_num

/-- The kernel's counts, as sums over the rows. -/
theorem ker_counts (a : IVec KernelIdeal.S2048 32) (k : Fin 48) :
    Ker.counts (F := Ideal) a (ix2 k 0) = ∑ x : Fin 2048, if a (ix1 x) = BitVec.ofNat 32 k then (1 : EReal) else 0 := by
  unfold Ker.counts Ker.hotf Ker.hot Ker.cols
  pointwise
  simp only [ker_hot]

/-- One part of the kernel's sums, as a sum over the rows. -/
theorem ker_part (a : IVec KernelIdeal.S2048 32) (h : FVec Ideal KernelIdeal.S2048x1024 .bf16) (k : Fin 48) (j : Fin 1024) :
    Ker.part (F := Ideal) a h (ix2 k j) = ∑ x : Fin 2048, if a (ix1 x) = BitVec.ofNat 32 k then (h (ix2 x j) : EReal) else 0 := by
  unfold Ker.part Ker.hotf Ker.hot Ker.cols
  pointwise
  refine Finset.sum_congr rfl fun x _ => ?_
  rw [ker_hot]
  split
  · exact one_mul _
  · exact zero_mul _

end Cert.Proof

end
-- ==== Proof.KerRun.lean ====
/- The kernel's run: what its result buffer holds at the end, element by element, from the assignments of the first kernel. -/
module

public import proofs.«01_k».proof.Proof.KerSteps
public import Idealize.ShloMosaic.Lib.Pipeline.ValueKit
public import Idealize.ShloMosaic.Lib.StableHlo.RunRead

@[expose] public section

set_option maxRecDepth 16384

noncomputable section

namespace Cert.Proof.Ker

open Idealize.SL Idealize.SL.RA Idealize.SL.BI
open scoped Idealize.SL.BI
open Idealize.SL.BI.BIBase Idealize.SL.BI.Laws Idealize.SL.ProofMode
open Idealize.ShloMosaic Idealize.ShloMosaic.Rounds Idealize.SL.Sem Idealize.ShloMosaic.Tactic Cert.KernelIdeal Cert.KernelIdeal.Gen
open TcCoe

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

-- the run's implicit arguments are found by unifying its conclusion with this one
set_option backward.isDefEq.respectTransparency.types false in
/-- THE RUN: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨h c _ (mem_uc main_v0 (by decide)),
       (h c _ (mem_uc main_arg0 (by decide))).trans (W3_main_arg0 m ρ c),
       (h c _ (mem_uc main_arg1 (by decide))).trans (W3_main_arg1 m ρ c)⟩)

/-- Where the first kernel's windows lie: at the origin. -/
theorem at0 (t : Fin cfg0.N) : win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 :=
  ⟨rfl, rfl, rfl, rfl, rfl, rfl, rfl, rfl⟩

/-- Where the second kernel's windows lie: the column's block is the mask's row block. -/
theorem at1 : ∀ t : Fin cfg1.N, win1_0.index t 0 = win1_2.index t 2 ∧ win1_0.index t 1 = 0 ∧ win1_1.index t 0 = 0 ∧ win1_1.index t 1 = 0
    ∧ win1_2.index t 3 = 0 := by decide +kernel

/-- The first kernel's first block is its whole array. -/
theorem blk0 (V : (c : Dev nD) → (b : Ref sig .tc) → Buf (Elt F) ((c : Thread nD τ).loc b)) (c : Dev nD) (t : Fin cfg0.N) :
    iblk0 V c 0 t = V c main_call0_v0 := by
  funext y
  blk_ext [iblk0, at0 t]

/-- The first kernel's second block is its whole array. -/
theorem blk1 (V : (c : Dev nD) → (b : Ref sig .tc) → Buf (Elt F) ((c : Thread nD τ).loc b)) (c : Dev nD) (t : Fin cfg0.N) :
    iblk0 V c 1 t = V c main_call0_v1 := by
  funext y
  blk_ext [iblk0, at0 t]

/-- The assignments as a column, at the first kernel's arrays. -/
theorem col_eq (V : (c : Dev nD) → (b : Ref sig .tc) → Buf (Elt F) ((c : Thread nD τ).loc b)) (c : Dev nD) :
    (dat0 V c).arrAt 2 cfg0.N = shapeCast S2048x1 (assign (V c main_call0_v0) (V c main_call0_v1)) shapeCasts_S2048_S2048x1 := by
  refine (dat0 V c).arrAt_eq_of_covers 2 _ (by decide +kernel) fun t hf y => ?_
  blk_simp
  rw [after0_2]
  frame_out
  rw [pay1_eq, blk0, blk1]
  congr 1
  blk_ext [at0 t]

/-- The assignments as a row, at the first kernel's arrays. -/
theorem row_eq (V : (c : Dev nD) → (b : Ref sig .tc) → Buf (Elt F) ((c : Thread nD τ).loc b)) (c : Dev nD) :
    (dat0 V c).arrAt 3 cfg0.N = shapeCast S1x2048 (shapeCast S2048x1 (assign (V c main_call0_v0) (V c main_call0_v1)) shapeCasts_S2048_S2048x1)
      shapeCasts_S2048x1_S1x2048 := by
  refine (dat0 V c).arrAt_eq_of_covers 3 _ (by decide +kernel) fun t hf y => ?_
  blk_simp
  rw [after0_3]
  frame_out
  rw [pay2_eq, blk0, blk1]
  congr 1
  blk_ext [at0 t]

/-- The mask of a column and a row of assignments. -/
def mask (u : S2048x1.Idx → BitVec 32) (v : S1x2048.Idx → BitVec 32) : S1x12x2048x2048.Idx → F .f32 := fun i =>
  Scalar.select (IntOp.cmpi .eq (u (ix2 (i 2) 0)) (v (ix2 0 (i 3)))) (Scalar.ofBits .f32 0x00000000#32) (Scalar.ofBits .f32 0xC61C4000#32)

/-- The mask, at the second kernel's arrays. -/
theorem mask_eq (V : (c : Dev nD) → (b : Ref sig .tc) → Buf (Elt F) ((c : Thread nD τ).loc b)) (c : Dev nD) :
    (dat1 V c).arrAt 2 cfg1.N = mask (V c main_call0_v2_0) (V c main_call0_v2_1) := by
  refine (dat1 V c).arrAt_eq_of_covers 2 _ (by decide +kernel) fun t hf y => ?_
  blk_simp
  rw [after1_2]
  frame_out
  unfold k1_pay1 mask
  pointwise
  blk_point [iblk1, at1 t]

/-- What the result buffer holds at the end, from the arguments. -/
theorem out_eq (c : Dev nD) : W3 m ρ c (Proc.devRef .tc main_v0)
    = mask (shapeCast S2048x1 (assign (V1 m ρ c main_call0_v0) (V1 m ρ c main_call0_v1)) shapeCasts_S2048_S2048x1)
      (shapeCast S1x2048 (shapeCast S2048x1 (assign (V1 m ρ c main_call0_v0) (V1 m ρ c main_call0_v1)) shapeCasts_S2048_S2048x1)
      shapeCasts_S2048x1_S1x2048) := by
  refine (W3_arr m ρ c 2).trans ((mask_eq (V2 m ρ) c).trans ?_)
  rw [show V2 m ρ c main_call0_v2_0 = _ from (W2_arr m ρ c 2).trans (col_eq _ c),
    show V2 m ρ c main_call0_v2_1 = _ from (W2_arr m ρ c 3).trans (row_eq _ c)]

/-- The first kernel's first array is the first argument without its leading axis. -/
theorem in0 (c : Dev nD) : V1 m ρ c main_call0_v0
    = shapeCast S2048x1024 (m ((c.tc : Thread nD τ).loc main_arg0)) Facts₀.shapeCasts_S1x2048x1024_S2048x1024 := by
  show StableHlo.after hostOps0 (W0 m ρ c) _ = _
  simp only [hostOps0]
  after_reads_simp
  rfl

/-- The first kernel's second array is the second argument without its leading axis. -/
theorem in1 (c : Dev nD) : V1 m ρ c main_call0_v1
    = shapeCast S1024x1024 (m ((c.tc : Thread nD τ).loc main_arg1)) Facts₀.shapeCasts_S1x1024x1024_S1024x1024 := by
  show StableHlo.after hostOps0 (W0 m ρ c) _ = _
  simp only [hostOps0]
  after_reads_simp
  rfl

/-- The two arrays of the first kernel, from the arguments. -/
abbrev arr0 (q : FVec F S1x2048x1024 .f32) : FVec F S2048x1024 .f32 := shapeCast S2048x1024 q Facts₀.shapeCasts_S1x2048x1024_S2048x1024
@[inherit_doc arr0] abbrev arr1 (w : FVec F S1x1024x1024 .f32) : FVec F S1024x1024 .f32 :=
  shapeCast S1024x1024 w Facts₀.shapeCasts_S1x1024x1024_S1024x1024

/-- The result, element by element, from the assignments: 0 where row and column are assigned alike, the printed constant elsewhere. -/
def same (a : S2048.Idx → BitVec 32) : S1x12x2048x2048.Idx → F .f32 := fun i =>
  Scalar.select (IntOp.cmpi .eq (a (ix1 (i 2))) (a (ix1 (i 3)))) (Scalar.ofBits .f32 0x00000000#32) (Scalar.ofBits .f32 0xC61C4000#32)

/-- What the result buffer holds at the end. -/
theorem out_same (c : Dev nD) : W3 m ρ c (Proc.devRef .tc main_v0)
    = same (assign (F := F) (arr0 (m ((c.tc : Thread nD τ).loc main_arg0))) (arr1 (m ((c.tc : Thread nD τ).loc main_arg1)))) := by
  rw [out_eq, in0 m ρ, in1 m ρ]
  generalize assign (F := F) _ _ = a
  funext i
  unfold mask same
  pointwise

end Cert.Proof.Ker

end
-- ==== Proof.Agree.lean ====
/- One step of the kernel and one step of the reference keep their centroids equal; hence the assignments, and the results, are. -/
module

public import proofs.«01_k».proof.Proof.Sums
public import proofs.«01_k».proof.Proof.KerRun

@[expose] public section

set_option maxRecDepth 16384

noncomputable section

namespace Cert.Proof

open Idealize.ShloMosaic Idealize.ShloMosaic.Tactic Cert.KernelIdeal.Gen

/-- The kernel's centroids hold the reference's, and zero in the padding rows. -/
def Holds (c : FVec Ideal KernelIdeal.S48x1024 .f32) (C : FVec Ideal ReferenceIdeal.S45x1024 .f32) : Prop :=
  (∀ (k : Fin 45) (j : Fin 1024), c (ix2 ⟨k, by omega⟩ j) = C (ix2 k j)) ∧ ∀ (k : Fin 48) (j : Fin 1024), 45 ≤ (k : ℕ) → c (ix2 k j) = (0 : EReal)

/-- A finite number: neither end of the line. -/
def Finite (x : EReal) : Prop := ∃ r : ℝ, x = r

/-- Products of finite numbers are finite. -/
theorem Finite.mul {x y : EReal} : Finite x → Finite y → Finite (x * y) := fun ⟨r, hr⟩ ⟨s, hs⟩ => ⟨r * s, by rw [hr, hs, EReal.coe_mul]⟩

/-- Sums of finite numbers are finite. -/
theorem Finite.sum {ι : Type} {S : Finset ι} {f : ι → EReal} (h : ∀ x, Finite (f x)) : Finite (∑ x ∈ S, f x) := by
  classical
  induction S using Finset.induction_on with
  | empty => exact ⟨0, by rw [Finset.sum_empty, EReal.coe_zero]⟩
  | insert a S ha ih =>
    obtain ⟨r, hr⟩ := ih
    obtain ⟨s, hs⟩ := h a
    exact ⟨s + r, by rw [Finset.sum_insert ha, hr, hs, EReal.coe_add]⟩

/-- A finite number less itself is zero. -/
theorem Finite.sub_self {x : EReal} : Finite x → x - x = 0 := fun ⟨r, hr⟩ => by rw [hr, ← EReal.coe_sub, _root_.sub_self, EReal.coe_zero]

/-- A finite number is not the bottom. -/
theorem Finite.ne_bot {x : EReal} : Finite x → x ≠ ⊥ := fun ⟨r, hr⟩ => by rw [hr]; exact EReal.coe_ne_bot r

/-- The padding's test, at a column. -/
theorem proper : ∀ k : Fin 48, IntOp.cmpi .slt (BitVec.ofNat 32 (k : ℕ)) 45#32 = if (k : ℕ) < 45 then 1#1 else 0#1 := by decide

section

variable (q : FVec Ideal KernelIdeal.S1x2048x1024 .f32) (w : FVec Ideal KernelIdeal.S1x1024x1024 .f32)

/-- The reference's rows, element by element. -/
theorem rows_apply (i : Fin 2048) (j : Fin 1024) : Ref.rows q w (ix2 i j) = ∑ x, (q (ix3 0 i x) : EReal) * w (ix3 0 x j) := by
  unfold Ref.rows
  pointwise

/-- The kernel's rows are the reference's. -/
theorem ker_rows (i : Fin 2048) (j : Fin 1024) : k0_pay39 (Ker.arr0 q) (Ker.arr1 w) (ix2 i j) = Ref.rows q w (ix2 i j) := by
  rw [rows_apply]
  unfold k0_pay39 k0_pay5 k0_pay3 Ker.arr0 Ker.arr1
  pointwise

/-- The kernel's squared norms of the rows. -/
theorem ker_norms (i : Fin 2048) : k0_pay38 (Ker.arr0 q) (Ker.arr1 w) (ix2 i 0) = ∑ j, (Ref.rows q w (ix2 i j) : EReal) * Ref.rows q w (ix2 i j) := by
  simp only [rows_apply]
  unfold k0_pay38 k0_pay4 k0_pay3 Ker.arr0 Ker.arr1
  pointwise

/-- The kernel's second part: a row less itself. -/
theorem ker_second (hX : ∀ i j, Finite (Ref.rows q w (ix2 i j))) (i : Fin 2048) (j : Fin 1024) :
    k0_pay40 (Ker.arr0 q) (Ker.arr1 w) (ix2 i j) = (0 : EReal) := by
  rw [← (hX i j).sub_self, rows_apply]
  unfold k0_pay40 k0_pay7 k0_pay6 k0_pay5 k0_pay3 Ker.arr0 Ker.arr1
  pointwise

/-- The kernel's third part. -/
theorem ker_third (hX : ∀ i j, Finite (Ref.rows q w (ix2 i j))) (i : Fin 2048) (j : Fin 1024) :
    k0_pay41 (Ker.arr0 q) (Ker.arr1 w) (ix2 i j) = (0 : EReal) := by
  have h := (hX i j).sub_self
  rw [rows_apply] at h
  unfold k0_pay41 k0_pay8 k0_pay7 k0_pay6 k0_pay5 k0_pay3 Ker.arr0 Ker.arr1
  pointwise
  rw [h]
  exact sub_zero 0

/-- The centroids agree at the start. -/
theorem start_holds : Holds (k0_pay42 (Ker.arr0 q) (Ker.arr1 w)) (Ref.start (Ref.rows q w)) := by
  refine ⟨fun k j => ?_, fun k j hk => ?_⟩
  · rw [show Ref.start (Ref.rows q w) (ix2 k j) = Ref.rows q w (ix2 ⟨k, by omega⟩ j) from by unfold Ref.start; pointwise, rows_apply]
    unfold k0_pay42 k0_pay9 k0_pay3 Ker.arr0 Ker.arr1
    pointwise
  · unfold k0_pay42 k0_pay9 k0_pay3
    pointwise
    rw [dif_neg (by omega)]

end

/-- The kernel's distances to the centroids proper. -/
theorem dist_real {x2 : FVec Ideal KernelIdeal.S2048x1 .f32} {h : FVec Ideal KernelIdeal.S2048x1024 .bf16} {X : FVec Ideal ReferenceIdeal.S2048x1024 .f32}
    (hx : ∀ i, x2 (ix2 i 0) = ∑ j, (X (ix2 i j) : EReal) * X (ix2 i j)) (hh : ∀ i j, h (ix2 i j) = X (ix2 i j))
    {c : FVec Ideal KernelIdeal.S48x1024 .f32} {C : FVec Ideal ReferenceIdeal.S45x1024 .f32} (hc : Holds c C) (i : Fin 2048) (k : Fin 45) :
    Ker.dist x2 h c (ix2 i ⟨k, by omega⟩) = Ref.dist X C (ix2 i k) := by
  unfold Ker.dist Ker.norms Ker.cols Ref.dist
  pointwise
  have hp := proper ⟨k, by omega⟩
  simp only [k.isLt, if_true] at hp
  rw [hp]
  simp only [Scalar.select, hx, hh, hc.1 k]
  rw [if_pos (show (1#1 : BitVec 1) = 1 from rfl)]

/-- The kernel's distances to the padding. -/
theorem dist_pad {x2 : FVec Ideal KernelIdeal.S2048x1 .f32} {h : FVec Ideal KernelIdeal.S2048x1024 .bf16}
    (hx : ∀ i, (x2 (ix2 i 0) : EReal) ≠ ⊥)
    {c : FVec Ideal KernelIdeal.S48x1024 .f32} {C : FVec Ideal ReferenceIdeal.S45x1024 .f32} (hc : Holds c C) (i : Fin 2048) (k : Fin 48) (hk : 45 ≤ (k : ℕ)) :
    Ker.dist x2 h c (ix2 i k) = (⊤ : EReal) := by
  unfold Ker.dist Ker.norms Ker.cols
  pointwise
  simp only [hc.2 k _ hk]
  rw [proper, if_neg (by omega), IdealRules.named_const.ideal_named_scalar _ _ _ _ rfl]
  simp only [Scalar.select, mul_zero, Finset.sum_const_zero, sub_zero, BitVec.reduceEq, if_false]
  exact EReal.add_top_of_ne_bot (hx i)

/-- A small number's word is told by its signed reading. -/
theorem toInt_eq_iff (u : BitVec 32) (k : ℕ) (hk : k < 2 ^ 31) : u.toInt = (k : ℤ) ↔ u = BitVec.ofNat 32 k := by
  refine ⟨fun h => BitVec.eq_of_toInt_eq (by rw [h, toInt_small k hk]), fun h => by rw [h, toInt_small k hk]⟩

/-- One renewal keeps the centroids equal. -/
theorem renew_holds {h1 h2 h3 : FVec Ideal KernelIdeal.S2048x1024 .bf16} {X : FVec Ideal ReferenceIdeal.S2048x1024 .f32}
    (e1 : ∀ i j, h1 (ix2 i j) = X (ix2 i j)) (e2 : ∀ i j, h2 (ix2 i j) = (0 : EReal)) (e3 : ∀ i j, h3 (ix2 i j) = (0 : EReal))
    {c : FVec Ideal KernelIdeal.S48x1024 .f32} {C : FVec Ideal ReferenceIdeal.S45x1024 .f32} (hc : Holds c C)
    {a : IVec KernelIdeal.S2048 32} (ha : ∀ i, ∃ k : Fin 45, a (ix1 i) = BitVec.ofNat 32 k) :
    Holds (Ker.renew h1 h2 h3 c a) (Ref.renew X C a) := by
  have r : ∀ (k : Fin 48) (j : Fin 1024), Ker.renew (F := Ideal) h1 h2 h3 c a (ix2 k j)
      = if 0 < (Ker.counts (F := Ideal) a (ix2 k 0) : EReal) then
          Ideal.div (Ker.part (F := Ideal) a h1 (ix2 k j) + Ker.part (F := Ideal) a h2 (ix2 k j) + Ker.part (F := Ideal) a h3 (ix2 k j) : EReal)
            (max (Ker.counts (F := Ideal) a (ix2 k 0) : EReal) 1)
        else c (ix2 k j) := fun k j => by
    unfold Ker.renew
    pointwise
  refine ⟨fun k j => ?_, fun k j hk => ?_⟩
  · rw [r]
    have s : Ref.renew X C a (ix2 k j)
        = if 0 < (Ref.counts (F := Ideal) a (ix1 k) : EReal) then Ideal.div (Ref.sums X a (ix2 k j) : EReal) (max (Ref.counts (F := Ideal) a (ix1 k) : EReal) 1)
          else C (ix2 k j) := by
      unfold Ref.renew
      pointwise
    rw [s, ker_counts, ref_counts, ker_part, ker_part, ker_part, ref_sums, hc.1]
    simp only [e1, e2, e3, ite_self, Finset.sum_const_zero, add_zero, toInt_eq_iff _ (k : ℕ) (by omega)]
  · rw [r, ker_counts, hc.2 k j hk]
    rw [if_neg]
    rw [Finset.sum_eq_zero fun x _ => if_neg ?_]
    · exact lt_irrefl _
    · obtain ⟨k', e⟩ := ha x
      rw [e]
      intro e'
      have := congrArg BitVec.toInt e'
      rw [toInt_small _ (by omega), toInt_small _ (by omega)] at this
      omega

/-- The kernel's choice is the reference's, and names a centroid. -/
theorem choose_eq {q : FVec Ideal KernelIdeal.S1x2048x1024 .f32} {w : FVec Ideal KernelIdeal.S1x1024x1024 .f32}
    (hX : ∀ i j, Finite (Ref.rows q w (ix2 i j)))
    {c : FVec Ideal KernelIdeal.S48x1024 .f32} {C : FVec Ideal ReferenceIdeal.S45x1024 .f32} (hc : Holds c C) :
    Ker.choose (Ker.arr0 q) (Ker.arr1 w) c = Ref.choose (Ref.rows q w) C ∧
      ∀ i, ∃ k : Fin 45, Ref.choose (Ref.rows q w) C (ix1 i) = BitVec.ofNat 32 k := by
  have hr : ∀ i, First (fun k => Ref.dist (Ref.rows q w) C (ix2 i k)) (Ref.choose (Ref.rows q w) C (ix1 i)) := fun i => ref_pick _ i
  have hk : ∀ i, First (fun k => Ref.dist (Ref.rows q w) C (ix2 i k)) (Ker.choose (Ker.arr0 q) (Ker.arr1 w) c (ix1 i)) := fun i =>
    (ker_pick _ i).padded (fun k => dist_real (ker_norms q w) (ker_rows q w) hc i k)
      (fun k hk => dist_pad (fun i => by rw [ker_norms]; exact (Finite.sum fun j => (hX i j).mul (hX i j)).ne_bot) hc i k hk)
  refine ⟨?_, fun i => ?_⟩
  · funext i
    rw [eq_ix1 i]
    exact (hk _).unique (hr _)
  · obtain ⟨k, e, -⟩ := hr i
    exact ⟨k, e⟩

/-- The centroids agree after any number of steps. -/
theorem cents_hold {q : FVec Ideal KernelIdeal.S1x2048x1024 .f32} {w : FVec Ideal KernelIdeal.S1x1024x1024 .f32}
    (hX : ∀ i j, Finite (Ref.rows q w (ix2 i j))) : ∀ k, Holds (Ker.cents (Ker.arr0 q) (Ker.arr1 w) k) (Ref.cents (Ref.rows q w) k)
  | 0 => start_holds q w
  | k + 1 => by
    have hc := cents_hold hX k
    obtain ⟨e, ha⟩ := choose_eq hX hc
    rw [Ker.cents_succ, Ref.cents_succ]
    unfold Ker.step Ref.step
    rw [e]
    exact renew_holds (ker_rows q w) (ker_second q w hX) (ker_third q w hX) hc ha

/-- The kernel's final assignments are the reference's. -/
theorem assign_eq {q : FVec Ideal KernelIdeal.S1x2048x1024 .f32} {w : FVec Ideal KernelIdeal.S1x1024x1024 .f32}
    (hX : ∀ i j, Finite (Ref.rows q w (ix2 i j))) :
    Ker.assign (Ker.arr0 q) (Ker.arr1 w) = Ref.choose (Ref.rows q w) (Ref.cents (Ref.rows q w) 9) :=
  (choose_eq hX (cents_hold hX 9)).1

/-- The mask's constant. -/
theorem big : Ideal.ofBits .f32 1176256512#32 = ((10000 : ℝ) : EReal) := by
  simp [Ideal.ofBits, Ideal.ieee, -EReal.coe_mul]; norm_num

/-- Its negative. -/
theorem big_neg : Ideal.ofBits .f32 3323740160#32 = ((-10000 : ℝ) : EReal) := by
  simp [Ideal.ofBits, Ideal.ieee, -EReal.coe_mul, -EReal.coe_neg]; norm_num

/-- From the same assignments, the same result. -/
theorem same_eq (a : IVec KernelIdeal.S2048 32) : Ker.same (F := Ideal) a = Ref.same (F := Ideal) a := by
  funext i
  unfold Ker.same Ref.same
  pointwise
  rw [big, big_neg]
  by_cases h : a (ix1 (i 2)) = a (ix1 (i 3))
  · rw [IntOp.cmpi, show (a (ix1 (i 2)) == a (ix1 (i 3))) = true from by simp [h]]
    rw [show (FloatOps.uitofp FTy.f32 (BitVec.ofBool true) : Ideal .f32) = (((BitVec.ofBool true).toNat : ℝ) : EReal) from rfl]
    rw [Scalar.select, if_pos (by decide), show (BitVec.ofBool true).toNat = 1 from by decide, ← EReal.coe_mul, ← EReal.coe_sub]
    norm_num
  · rw [IntOp.cmpi, show (a (ix1 (i 2)) == a (ix1 (i 3))) = false from by simp [h]]
    rw [show (FloatOps.uitofp FTy.f32 (BitVec.ofBool false) : Ideal .f32) = (((BitVec.ofBool false).toNat : ℝ) : EReal) from rfl]
    rw [Scalar.select, if_neg (by decide), show (BitVec.ofBool false).toNat = 0 from by decide, ← EReal.coe_mul, ← EReal.coe_sub]
    norm_num

/-- Rows from finite arguments are finite. -/
theorem rows_finite {q : FVec Ideal KernelIdeal.S1x2048x1024 .f32} {w : FVec Ideal KernelIdeal.S1x1024x1024 .f32}
    (hq : ∀ i, Finite (q i)) (hw : ∀ i, Finite (w i)) (i : Fin 2048) (j : Fin 1024) : Finite (Ref.rows q w (ix2 i j)) := by
  rw [rows_apply]
  exact Finite.sum fun x => (hq _).mul (hw _)

end Cert.Proof

end
-- ==== Proof.Value.lean ====
/- The value claim: under finite arguments the kernel's result and the reference's are one array. -/
module

public import proofs.«01_k».proof.Defs
public import proofs.«01_k».proof.Proof.Agree
public import Idealize.ShloMosaic.Lib.ReduceAll

@[expose] public section

set_option maxRecDepth 16384

noncomputable section

namespace Cert.Proof

open Idealize.ShloMosaic Idealize.ShloMosaic.Tactic Idealize.SL.Sem
open TcCoe

/-- What the precondition's operations take. -/
theorem preFacts : Cert.Pre_finite.Facts where
  bcast_S_S1x2048x1024 := by decide
  reducesTo_S1x2048x1024_S_d0_1_2 := by decide
  h_S_ := by decide
  bcast_S_S1x1024x1024 := by decide
  reducesTo_S1x1024x1024_S_d0_1_2 := by decide

/-- A magnitude below the top is finite. -/
theorem finite_of_abs {x : EReal} (h : FloatOps.cmpf (F := Ideal) (φ := .f32) .olt (max x (-x)) (Ideal.ofBits .f32 0x7F800000#32) = 1#1) : Finite x := by
  rw [show Ideal.ofBits .f32 0x7F800000#32 = ⊤ from rfl] at h
  rw [Ideal.cmpf_def] at h
  induction x with
  | bot => simp [Ideal.cmp] at h
  | top => simp [Ideal.cmp] at h
  | coe r => exact ⟨r, rfl⟩

/-- The precondition says that every entry of both arguments is finite. -/
theorem finite_args {q : FVec Ideal KernelIdeal.S1x2048x1024 .f32} {w : FVec Ideal KernelIdeal.S1x1024x1024 .f32}
    (h : (haveI := preFacts; Cert.Pre_finite.fn (F := Ideal) q w) = fun _ => 1#1) : (∀ i, Finite (q i)) ∧ ∀ i, Finite (w i) := by
  have h0 := congrFun h (fun a => a.elim0)
  obtain ⟨hq, hw⟩ := IntOp.andi_eq_one.1 h0
  haveI : Subsingleton Cert.Pre_finite.S_.Idx := ⟨fun x y => funext fun a => a.elim0⟩
  exact ⟨fun i => finite_of_abs (Host.reduce_andi_all _ _ _ _ _ hq i), fun i => finite_of_abs (Host.reduce_andi_all _ _ _ _ _ hw i)⟩

/-- The two runs end at one result. -/
theorem algebraic : algebraic_KernelIdeal_ReferenceIdeal_pre_finite (hKernelIdeal := Cert.KernelIdeal.Gen.facts)
    (hReferenceIdeal := Cert.ReferenceIdeal.Gen.facts) (hPre_finite := preFacts) := by
  intro m g m' g' hpre hargs
  refine ⟨fun c => Ker.same (F := Ideal) (Ker.assign (F := Ideal) (Ker.arr0 (F := Ideal) (m ((c.tc : Thread KernelIdeal.nD KernelIdeal.τ).loc KernelIdeal.main_arg0)))
    (Ker.arr1 (F := Ideal) (m ((c.tc : Thread KernelIdeal.nD KernelIdeal.τ).loc KernelIdeal.main_arg1)))), ?_, ?_⟩
  · exact (θ_run _ _ _).mono (fun r h c => ⟨(h c).1.trans (Ker.out_same m g c), (h c).2.1, (h c).2.2⟩) (Ker.run m g)
  · refine (θ_run _ _ _).mono (fun r h c => ⟨?_, (h.1 c _ rfl).trans (Ref.final_arg0 m' c), (h.1 c _ rfl).trans (Ref.final_arg1 m' c)⟩) (Ref.run m' g')
    obtain ⟨hq, hw⟩ := finite_args (hpre c)
    refine (h.1 c _ rfl).trans ((Ref.final_out m' c rfl).trans ?_)
    rw [(hargs c).1, (hargs c).2]
    exact ((same_eq _).trans (congrArg _ (assign_eq (rows_finite hq hw)))).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The five claims: the three frames, the named constant, and the equality of the results. -/
theorem claim : Cert.Claim := ⟨Cert.Kernel.Gen.facts, Cert.KernelIdeal.Gen.facts, Cert.ReferenceIdeal.Gen.facts, preFacts,
  fun m ρ _ => Cert.Kernel.Gen.frame m ρ,
  fun m ρ _ => Cert.KernelIdeal.Gen.frame m ρ,
  fun m ρ _ => Cert.KernelIdeal.Gen.frame m ρ,
  fun m ρ _ => Cert.Proof.Ref.frame m ρ,
  fun m ρ _ => Cert.Proof.Ref.frame m ρ,
  IdealRules.named_const.statement Cert.KernelIdeal.κ "far" .f32 0x7F61B1E6#32 ⊤ rfl,
  algebraic⟩

end Cert.Proof

end
